-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S8x4096x1024 : Shape := ⟨3, ![8, 4096, 1024]⟩
abbrev S2x1024 : Shape := ⟨2, ![2, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S4x128x1 : Shape := ⟨3, ![4, 128, 1]⟩
abbrev S16x1024 : Shape := ⟨2, ![16, 1024]⟩
abbrev S2x32x2816 : Shape := ⟨3, ![2, 32, 2816]⟩
abbrev S2x176x1024 : Shape := ⟨3, ![2, 176, 1024]⟩
abbrev S1056x1024 : Shape := ⟨2, ![1056, 1024]⟩
abbrev S1024x512 : Shape := ⟨2, ![1024, 512]⟩
abbrev S1024x1 : Shape := ⟨2, ![1024, 1]⟩
abbrev S16 : Shape := ⟨1, ![16]⟩
abbrev S16x1 : Shape := ⟨2, ![16, 1]⟩
abbrev S1056x512 : Shape := ⟨2, ![1056, 512]⟩
abbrev S512x1024 : Shape := ⟨2, ![512, 1024]⟩
abbrev S1024x1536 : Shape := ⟨2, ![1024, 1536]⟩
abbrev S512x1536 : Shape := ⟨2, ![512, 1536]⟩
abbrev S512x512 : Shape := ⟨2, ![512, 512]⟩
abbrev S512x1 : Shape := ⟨2, ![512, 1]⟩
abbrev S128x128 : Shape := ⟨2, ![128, 128]⟩
abbrev S128x512 : Shape := ⟨2, ![128, 512]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 33
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x3x512, .f32⟩
  | .hbm, ⟨8, _⟩ => ⟨S1x1024x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S32768x1024, .f32⟩
  | .hbm, ⟨13, _⟩ => ⟨S1x1024, .f32⟩
  | .hbm, ⟨14, _⟩ => ⟨S1024, .f32⟩
  | .hbm, ⟨15, _⟩ => ⟨S1024x2560, .f32⟩
  | .hbm, ⟨16, _⟩ => ⟨S512, .f32⟩
  | .hbm, ⟨17, _⟩ => ⟨S512, .f32⟩
  | .hbm, ⟨18, _⟩ => ⟨S4x128x128, .f32⟩
  | .hbm, ⟨19, _⟩ => ⟨S4x128, .f32⟩
  | .hbm, ⟨20, _⟩ => ⟨S3x512, .f32⟩
  | .hbm, ⟨21, _⟩ => ⟨S1024x1024, .f32⟩
  | .hbm, ⟨22, _⟩ => ⟨S1x1024, .f32⟩
  | .hbm, ⟨23, _⟩ => ⟨S1024x2560, .bf16⟩
  | .hbm, ⟨24, _⟩ => ⟨S1x512, .f32⟩
  | .hbm, ⟨25, _⟩ => ⟨S1x512, .f32⟩
  | .hbm, ⟨26, _⟩ => ⟨S4x128x128, .bf16⟩
  | .hbm, ⟨27, _⟩ => ⟨S4x128x1, .f32⟩
  | .hbm, ⟨28, _⟩ => ⟨S1024x1024, .bf16⟩
  | .hbm, ⟨29, _⟩ => ⟨S32768x1024, .f32⟩
  | .hbm, ⟨30, _⟩ => ⟨S2x1024x2816, .bf16⟩
  | .hbm, ⟨31, _⟩ => ⟨S2x1024x2816, .bf16⟩
  | .hbm, ⟨32, _⟩ => ⟨S2x2816x1024, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x2560, .bf16⟩
  | .local _ .vmem, ⟨8, _⟩ => ⟨S1x512, .f32⟩
  | .local _ .vmem, ⟨9, _⟩ => ⟨S1x512, .f32⟩
  | .local _ .vmem, ⟨10, _⟩ => ⟨S4x128x128, .bf16⟩
  | .local _ .vmem, ⟨11, _⟩ => ⟨S4x128x1, .f32⟩
  | .local _ .vmem, ⟨12, _⟩ => ⟨S3x512, .f32⟩
  | .local _ .vmem, ⟨13, _⟩ => ⟨S1024x1024, .bf16⟩
  | .local _ .vmem, ⟨14, _⟩ => ⟨S2x32x2816, .f32⟩
  | .local _ .vmem, ⟨15, _⟩ => ⟨S2x32x2816, .f32⟩
  | .local _ .vmem, ⟨16, _⟩ => ⟨S2x32x2816, .f32⟩
  | .local _ .vmem, ⟨17, _⟩ => ⟨S2x32x2816, .f32⟩
  | .local _ .vmem, ⟨18, _⟩ => ⟨S2x176x1024, .f32⟩
  | .local _ .vmem, ⟨19, _⟩ => ⟨S2x176x1024, .f32⟩
  | .local _ .vmem, ⟨20, _⟩ => ⟨S1024x1024, .f32⟩
  | .local _ .vmem, ⟨21, _⟩ => ⟨S1024x1024, .f32⟩
  | .local _ .vmem, ⟨22, _⟩ => ⟨S2x32x2816, .bf16⟩
  | .local _ .vmem, ⟨23, _⟩ => ⟨S2x32x2816, .bf16⟩
  | .local _ .vmem, ⟨24, _⟩ => ⟨S2x32x2816, .bf16⟩
  | .local _ .vmem, ⟨25, _⟩ => ⟨S2x32x2816, .bf16⟩
  | .local _ .vmem, ⟨26, _⟩ => ⟨S2x176x1024, .bf16⟩
  | .local _ .vmem, ⟨27, _⟩ => ⟨S2x176x1024, .bf16⟩
  | .local _ .vmem, ⟨28, _⟩ => ⟨S1056x1024, .bf16⟩
  | .local _ .vmem, ⟨29, _⟩ => ⟨S1024x512, .f32⟩
  | .local _ .vmem, ⟨30, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x32x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x32x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S8x4096x1024 : Shape := ⟨3, ![8, 4096, 1024]⟩
abbrev S2x1024 : Shape := ⟨2, ![2, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S1024x1024 : Shape := ⟨2, ![1024, 1024]⟩
abbrev S8x4096x2560 : Shape := ⟨3, ![8, 4096, 2560]⟩
abbrev S8x4096x512 : Shape := ⟨3, ![8, 4096, 512]⟩
abbrev S1x1x512 : Shape := ⟨3, ![1, 1, 512]⟩
abbrev S8x32x128x4x128 : Shape := ⟨5, ![8, 32, 128, 4, 128]⟩
abbrev S4x8x32x128x128 : Shape := ⟨5, ![4, 8, 32, 128, 128]⟩
abbrev S128x4 : Shape := ⟨2, ![128, 4]⟩
abbrev S1x1x128x4x1 : Shape := ⟨5, ![1, 1, 128, 4, 1]⟩
abbrev S8x4098x512 : Shape := ⟨3, ![8, 4098, 512]⟩
abbrev S32768x1024 : Shape := ⟨2, ![32768, 1024]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S2x1024, .f32⟩
  | 2 => ⟨S1x1024x2560, .f32⟩
  | 3 => ⟨S1x512, .f32⟩
  | 4 => ⟨S1x512, .f32⟩
  | 5 => ⟨S1x4x128x128, .f32⟩
  | 6 => ⟨S1x4x128, .f32⟩
  | 7 => ⟨S1x3x512, .f32⟩
  | 8 => ⟨S1x1024x1024, .f32⟩
  | 9 => ⟨S2x1024x2816, .f32⟩
  | 10 => ⟨S2x1024x2816, .f32⟩
  | 11 => ⟨S2x2816x1024, .f32⟩
  | 12 => ⟨S1x1024, .f32⟩
  | 13 => ⟨S1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S1024x2560, .f32⟩
  | 31 => ⟨S512, .f32⟩
  | 32 => ⟨S512, .f32⟩
  | 33 => ⟨S4x128x128, .f32⟩
  | 34 => ⟨S4x128, .f32⟩
  | 35 => ⟨S3x512, .f32⟩
  | 36 => ⟨S1024x1024, .f32⟩
  | 37 => ⟨S8x4096x2560, .f32⟩
  | 38 => ⟨S8x4096x512, .f32⟩
  | 39 => ⟨S8x4096x512, .f32⟩
  | 40 => ⟨S8x4096x512, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x512, .f32⟩
  | 54 => ⟨S_, .f32⟩
  | 55 => ⟨S8x4096x512, .f32⟩
  | 56 => ⟨S8x4096x512, .f32⟩
  | 57 => ⟨S_, .f32⟩
  | 58 => ⟨S8x4096x512, .f32⟩
  | 59 => ⟨S8x4096x512, .f32⟩
  | 60 => ⟨S8x4096x512, .f32⟩
  | 61 => ⟨S_, .f32⟩
  | 62 => ⟨S8x4096x512, .f32⟩
  | 63 => ⟨S8x4096x512, .f32⟩
  | 64 => ⟨S8x4096x512, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S8x4096x512, .f32⟩
  | 72 => ⟨S8x4096x512, .f32⟩
  | 73 => ⟨S8x4096x512, .f32⟩
  | 74 => ⟨S_, .f32⟩
  | 75 => ⟨S8x4096, .f32⟩
  | 76 => ⟨S8x4096x1, .f32⟩
  | 77 => ⟨S_, .f32⟩
  | 78 => ⟨S8x4096x1, .f32⟩
  | 79 => ⟨S8x4096x1, .f32⟩
  | 80 => ⟨S_, .f32⟩
  | 81 => ⟨S8x4096x1, .f32⟩
  | 82 => ⟨S8x4096x1, .f32⟩
  | 83 => ⟨S8x4096x1, .f32⟩
  | 84 => ⟨S8x4096x512, .f32⟩
  | 85 => ⟨S8x4096x512, .f32⟩
  | 86 => ⟨S1x1x512, .f32⟩
  | 87 => ⟨S8x4096x512, .f32⟩
  | 88 => ⟨S8x4096x512, .f32⟩
  | 89 => ⟨S1x1x512, .f32⟩
  | 90 => ⟨S8x4096x512, .f32⟩
  | 91 => ⟨S8x4096x512, .f32⟩
  | 92 => ⟨S8x32x128x4x128, .f32⟩
  | 93 => ⟨S4x8x32x128x128, .f32⟩
  | 94 => ⟨S8x32x128x4x128, .f32⟩
  | 95 => ⟨S128x4, .f32⟩
  | 96 => ⟨S1x1x128x4x1, .f32⟩
  | 97 => ⟨S8x32x128x4x128, .f32⟩
  | 98 => ⟨S8x32x128x4x128, .f32⟩
  | 99 => ⟨S8x4096x512, .f32⟩
  | 100 => ⟨S8x4096x512, .f32⟩
  | 101 => ⟨S8x4096x512, .f32⟩
  | 102 => ⟨S_, .i32⟩
  | 103 => ⟨S_, .f32⟩
  | 104 => ⟨S8x4098x512, .f32⟩
  | 105 => ⟨S8x4096x512, .f32⟩
  | 106 => ⟨S1x512, .f32⟩
  | 107 => ⟨S512, .f32⟩
  | 108 => ⟨S1x1x512, .f32⟩
  | 109 => ⟨S8x4096x512, .f32⟩
  | 110 => ⟨S8x4096x512, .f32⟩
  | 111 => ⟨S8x4096x512, .f32⟩
  | 112 => ⟨S1x512, .f32⟩
  | 113 => ⟨S512, .f32⟩
  | 114 => ⟨S1x1x512, .f32⟩
  | 115 => ⟨S8x4096x512, .f32⟩
  | 116 => ⟨S8x4096x512, .f32⟩
  | 117 => ⟨S8x4096x512, .f32⟩
  | 118 => ⟨S8x4096x512, .f32⟩
  | 119 => ⟨S1x512, .f32⟩
  | 120 => ⟨S512, .f32⟩
  | 121 => ⟨S1x1x512, .f32⟩
  | 122 => ⟨S8x4096x512, .f32⟩
  | 123 => ⟨S8x4096x512, .f32⟩
  | 124 => ⟨S8x4096x512, .f32⟩
  | 125 => ⟨S8x4096x512, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S32768x1024, .f32⟩
  | 2 => ⟨S2x1024x2816, .bf16⟩
  | 3 => ⟨S2x1024x2816, .bf16⟩
  | 4 => ⟨S2x2816x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c : Ref sig .tc := ⟨.hbm, 102, rfl⟩
abbrev main_call0_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== Kernel2.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1024x512 : Shape := ⟨2, ![1024, 512]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1024x512 : Shape := ⟨2, ![1024, 512]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S32768x1024, .f32⟩
  | .hbm, ⟨6, _⟩ => ⟨S1x1024, .f32⟩
  | .hbm, ⟨7, _⟩ => ⟨S1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x1024 : Shape := ⟨3, ![8, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S_, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x1024, .f32⟩
  | .hbm, ⟨42, _⟩ => ⟨S8x4096x1024, .f32⟩
  | .hbm, ⟨43, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x1024 : Shape := ⟨2, ![2, 1024]⟩
abbrev S1x1024x1536 : Shape := ⟨3, ![1, 1024, 1536]⟩
abbrev S32768x1024 : Shape := ⟨2, ![32768, 1024]⟩
abbrev S1x1024 : Shape := ⟨2, ![1, 1024]⟩
abbrev S1024 : Shape := ⟨1, ![1024]⟩
abbrev S1024x1536 : Shape := ⟨2, ![1024, 1536]⟩
abbrev S1024x1024 : Shape := ⟨2, ![1024, 1024]⟩
abbrev S1024x256 : Shape := ⟨2, ![1024, 256]⟩
abbrev S1024x1280 : Shape := ⟨2, ![1024, 1280]⟩
abbrev S1280x1024 : Shape := ⟨2, ![1280, 1024]⟩
abbrev S256x1024x128 : Shape := ⟨3, ![256, 1024, 128]⟩
abbrev S32768x256 : Shape := ⟨2, ![32768, 256]⟩
abbrev S256x256x128 : Shape := ⟨3, ![256, 256, 128]⟩
abbrev S2048x1024 : Shape := ⟨2, ![2048, 1024]⟩
abbrev S16x1024x128 : Shape := ⟨3, ![16, 1024, 128]⟩
abbrev S2048x256 : Shape := ⟨2, ![2048, 256]⟩
abbrev S16x256x128 : Shape := ⟨3, ![16, 256, 128]⟩
abbrev S2048 : Shape := ⟨1, ![2048]⟩
abbrev S2048x1 : Shape := ⟨2, ![2048, 1]⟩
abbrev S1280x2048 : Shape := ⟨2, ![1280, 2048]⟩
abbrev S1024x128 : Shape := ⟨2, ![1024, 128]⟩
abbrev S1x1024x128 : Shape := ⟨3, ![1, 1024, 128]⟩
abbrev S256x128 : Shape := ⟨2, ![256, 128]⟩
abbrev S1x256x128 : Shape := ⟨3, ![1, 256, 128]⟩

abbrev nBuf : Space → Nat
  | .hbm => 18
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x1536, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1024x1536, .f32⟩
  | .hbm, ⟨7, _⟩ => ⟨S1024x1024, .f32⟩
  | .hbm, ⟨8, _⟩ => ⟨S1024x256, .f32⟩
  | .hbm, ⟨9, _⟩ => ⟨S1024x256, .f32⟩
  | .hbm, ⟨10, _⟩ => ⟨S1024x1280, .f32⟩
  | .hbm, ⟨11, _⟩ => ⟨S1280x1024, .f32⟩
  | .hbm, ⟨12, _⟩ => ⟨S1280x1024, .bf16⟩
  | .hbm, ⟨13, _⟩ => ⟨S1x1024, .f32⟩
  | .hbm, ⟨14, _⟩ => ⟨S1024x256, .bf16⟩
  | .hbm, ⟨15, _⟩ => ⟨S256x1024x128, .bf16⟩
  | .hbm, ⟨16, _⟩ => ⟨S32768x256, .bf16⟩
  | .hbm, ⟨17, _⟩ => ⟨S256x256x128, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1280x1024, .bf16⟩
  | .local _ .vmem, ⟨4, _⟩ => ⟨S1024x256, .bf16⟩
  | .local _ .vmem, ⟨5, _⟩ => ⟨S16x1024x128, .bf16⟩
  | .local _ .vmem, ⟨6, _⟩ => ⟨S16x1024x128, .bf16⟩
  | .local _ .vmem, ⟨7, _⟩ => ⟨S2048x256, .bf16⟩
  | .local _ .vmem, ⟨8, _⟩ => ⟨S2048x256, .bf16⟩
  | .local _ .vmem, ⟨9, _⟩ => ⟨S16x256x128, .bf16⟩
  | .local _ .vmem, ⟨10, _⟩ => ⟨S16x256x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v12_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8x4096x1024 : Shape := ⟨3, ![8, 4096, 1024]⟩
abbrev S2x1024 : Shape := ⟨2, ![2, 1024]⟩
abbrev S1x1024x1536 : Shape := ⟨3, ![1, 1024, 1536]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S8x4096x1536 : Shape := ⟨3, ![8, 4096, 1536]⟩
abbrev S8x4096x256 : Shape := ⟨3, ![8, 4096, 256]⟩
abbrev S256x128x1024 : Shape := ⟨3, ![256, 128, 1024]⟩
abbrev S256x1024x128 : Shape := ⟨3, ![256, 1024, 128]⟩
abbrev S256x128x256 : Shape := ⟨3, ![256, 128, 256]⟩
abbrev S256x256x128 : Shape := ⟨3, ![256, 256, 128]⟩
abbrev S32768x256 : Shape := ⟨2, ![32768, 256]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024, .f32⟩
  | .hbm, ⟨2, _⟩ => ⟨S1x1024x1536, .f32⟩
  | .hbm, ⟨3, _⟩ => ⟨S1x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x1536, .f32⟩
  | .hbm, ⟨22, _⟩ => ⟨S8x4096x1536, .f32⟩
  | .hbm, ⟨23, _⟩ => ⟨S8x4096x1024, .f32⟩
  | .hbm, ⟨24, _⟩ => ⟨S8x4096x256, .f32⟩
  | .hbm, ⟨25, _⟩ => ⟨S8x4096x256, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S256x128x1024, .f32⟩
  | .hbm, ⟨30, _⟩ => ⟨S256x1024x128, .f32⟩
  | .hbm, ⟨31, _⟩ => ⟨S256x128x256, .f32⟩
  | .hbm, ⟨32, _⟩ => ⟨S256x256x128, .f32⟩
  | .hbm, ⟨33, _⟩ => ⟨S256x1024x128, .bf16⟩
  | .hbm, ⟨34, _⟩ => ⟨S32768x256, .f32⟩
  | .hbm, ⟨35, _⟩ => ⟨S32768x256, .bf16⟩
  | .hbm, ⟨36, _⟩ => ⟨S256x256x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x256 : Shape := ⟨3, ![8, 4096, 256]⟩
abbrev S1x16 : Shape := ⟨2, ![1, 16]⟩
abbrev S32x16 : Shape := ⟨2, ![32, 16]⟩
abbrev S1x1024x1024 : Shape := ⟨3, ![1, 1024, 1024]⟩
abbrev S_ : Shape := ⟨0, ![]⟩
abbrev S256x128x1024 : Shape := ⟨3, ![256, 128, 1024]⟩
abbrev S256x1024x128 : Shape := ⟨3, ![256, 1024, 128]⟩
abbrev S256x128x256 : Shape := ⟨3, ![256, 128, 256]⟩
abbrev S256x256x128 : Shape := ⟨3, ![256, 256, 128]⟩
abbrev S32768x1024 : Shape := ⟨2, ![32768, 1024]⟩
abbrev S32768x256 : Shape := ⟨2, ![32768, 256]⟩
abbrev S16 : Shape := ⟨1, ![16]⟩
abbrev S1024x1024 : Shape := ⟨2, ![1024, 1024]⟩
abbrev S512 : Shape := ⟨1, ![512]⟩
abbrev S8x1024x128 : Shape := ⟨3, ![8, 1024, 128]⟩
abbrev S1024x256 : Shape := ⟨2, ![1024, 256]⟩
abbrev S128x256 : Shape := ⟨2, ![128, 256]⟩
abbrev S8x256x128 : Shape := ⟨3, ![8, 256, 128]⟩
abbrev S1x256x128 : Shape := ⟨3, ![1, 256, 128]⟩
abbrev S16x384x128 : Shape := ⟨3, ![16, 384, 128]⟩
abbrev S1280x256 : Shape := ⟨2, ![1280, 256]⟩
abbrev S10x256x128 : Shape := ⟨3, ![10, 256, 128]⟩
abbrev S2x384x512 : Shape := ⟨3, ![2, 384, 512]⟩
abbrev S384x128 : Shape := ⟨2, ![384, 128]⟩
abbrev S1 : Shape := ⟨1, ![1]⟩
abbrev S1x384x128 : Shape := ⟨3, ![1, 384, 128]⟩
abbrev S256x128 : Shape := ⟨2, ![256, 128]⟩
abbrev S1x64x128 : Shape := ⟨3, ![1, 64, 128]⟩
abbrev S64x128 : Shape := ⟨2, ![64, 128]⟩
abbrev S64x512 : Shape := ⟨2, ![64, 512]⟩
abbrev S128x512 : Shape := ⟨2, ![128, 512]⟩
abbrev S384x512 : Shape := ⟨2, ![384, 512]⟩
abbrev S1x384x512 : Shape := ⟨3, ![1, 384, 512]⟩
abbrev S128 : Shape := ⟨1, ![128]⟩
abbrev S1x128 : Shape := ⟨2, ![1, 128]⟩
abbrev S64x384 : Shape := ⟨2, ![64, 384]⟩
abbrev S1x1024x128 : Shape := ⟨3, ![1, 1024, 128]⟩
abbrev S1024x128 : Shape := ⟨2, ![1024, 128]⟩

abbrev nBuf : Space → Nat
  | .hbm => 24
  | .vmem => 25
  | .smem => 2
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x256, .f32⟩
  | .hbm, ⟨3, _⟩ => ⟨S8x4096x256, .f32⟩
  | .hbm, ⟨4, _⟩ => ⟨S1x16, .f32⟩
  | .hbm, ⟨5, _⟩ => ⟨S32x16, .f32⟩
  | .hbm, ⟨6, _⟩ => ⟨S1x1024x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x1024, .bf16⟩
  | .hbm, ⟨11, _⟩ => ⟨S256x128x1024, .bf16⟩
  | .hbm, ⟨12, _⟩ => ⟨S256x1024x128, .bf16⟩
  | .hbm, ⟨13, _⟩ => ⟨S8x4096x256, .bf16⟩
  | .hbm, ⟨14, _⟩ => ⟨S256x128x256, .bf16⟩
  | .hbm, ⟨15, _⟩ => ⟨S256x256x128, .bf16⟩
  | .hbm, ⟨16, _⟩ => ⟨S32768x1024, .f32⟩
  | .hbm, ⟨17, _⟩ => ⟨S8x4096x256, .bf16⟩
  | .hbm, ⟨18, _⟩ => ⟨S32768x256, .bf16⟩
  | .hbm, ⟨19, _⟩ => ⟨S16, .f32⟩
  | .hbm, ⟨20, _⟩ => ⟨S1024x1024, .f32⟩
  | .hbm, ⟨21, _⟩ => ⟨S512, .f32⟩
  | .hbm, ⟨22, _⟩ => ⟨S1024x1024, .bf16⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .bf16⟩
  | .local _ .vmem, ⟨3, _⟩ => ⟨S8x1024x128, .bf16⟩
  | .local _ .vmem, ⟨4, _⟩ => ⟨S1024x256, .bf16⟩
  | .local _ .vmem, ⟨5, _⟩ => ⟨S1024x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S8x256x128, .bf16⟩
  | .local _ .vmem, ⟨11, _⟩ => ⟨S8x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S16x384x128, .f32⟩
  | .local _ .vmem, ⟨20, _⟩ => ⟨S1280x256, .bf16⟩
  | .local _ .vmem, ⟨21, _⟩ => ⟨S10x256x128, .bf16⟩
  | .local _ .vmem, ⟨22, _⟩ => ⟨S2x384x512, .f32⟩
  | .local _ .vmem, ⟨23, _⟩ => ⟨S2x384x512, .bf16⟩
  | .local _ .vmem, ⟨24, _⟩ => ⟨S8x1024x128, .bf16⟩
  | .local _ .smem, ⟨0, _⟩ => ⟨S16, .f32⟩
  | .local _ .smem, ⟨1, _⟩ => ⟨S512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_16406 : BitVec 32 := 0#32
  let c16_i32_16407 : BitVec 32 := 16#32
  let v21633 : BitVec 32 := Scalar.addi c0_i32_16406 c16_i32_16407
  let c1_i32_16408 : BitVec 32 := 1#32
  ⟨c0_i32_16406, v21633, c1_i32_16408⟩
def k0_off1 (k0_t1 : Fin k0_t1_loop.trips) (c0_i32_16412 : BitVec 32) : Fin 1 → Nat :=
  let c0_i32_16406 : BitVec 32 := 0#32
  let c1_i32_16408 : BitVec 32 := 1#32
  let arg19 : BitVec 32 := Scf.iv c0_i32_16406 c1_i32_16408 k0_t1
  let v21637 : BitVec 32 := Scalar.addi c0_i32_16412 arg19
  let v21638 : Index := Scalar.indexCast v21637
  ![v21638.toNat]
def k0_off2 (k0_t1 : Fin k0_t1_loop.trips) : Fin 3 → Nat :=
  let c0_i32_16406 : BitVec 32 := 0#32
  let c1_i32_16408 : BitVec 32 := 1#32
  let arg19 : BitVec 32 := Scf.iv c0_i32_16406 c1_i32_16408 k0_t1
  let v21863 : Index := Scalar.indexCast arg19
  let c0_16426 : Index := 0#32
  let c0_16427 : Index := 0#32
  ![v21863.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![v2.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8x4096x1024 : Shape := ⟨3, ![8, 4096, 1024]⟩
abbrev S8x4096x256 : Shape := ⟨3, ![8, 4096, 256]⟩
abbrev S1x16 : Shape := ⟨2, ![1, 16]⟩
abbrev S32x16 : Shape := ⟨2, ![32, 16]⟩
abbrev S1x1024x1024 : Shape := ⟨3, ![1, 1024, 1024]⟩
abbrev S16 : Shape := ⟨1, ![16]⟩
abbrev S1024x1024 : Shape := ⟨2, ![1024, 1024]⟩
abbrev S8x32x128x4x4x64 : Shape := ⟨6, ![8, 32, 128, 4, 4, 64]⟩
abbrev S8x32x128x4x64 : Shape := ⟨5, ![8, 32, 128, 4, 64]⟩
abbrev S_ : Shape := ⟨0, ![]⟩
abbrev S8x34x128x4x64 : Shape := ⟨5, ![8, 34, 128, 4, 64]⟩
abbrev S8x32x384x4x64 : Shape := ⟨5, ![8, 32, 384, 4, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x384x1 : Shape := ⟨3, ![128, 384, 1]⟩
abbrev S128x384x16 : Shape := ⟨3, ![128, 384, 16]⟩
abbrev S16x128x384 : Shape := ⟨3, ![16, 128, 384]⟩
abbrev S4x4x128x384 : Shape := ⟨4, ![4, 4, 128, 384]⟩
abbrev S4x4x1x1 : Shape := ⟨4, ![4, 4, 1, 1]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S8x32x4x384x128x4 : Shape := ⟨6, ![8, 32, 4, 384, 128, 4]⟩
abbrev S8x32x4x4x128x384 : Shape := ⟨6, ![8, 32, 4, 4, 128, 384]⟩
abbrev S1x1x4x4x128x384 : Shape := ⟨6, ![1, 1, 4, 4, 128, 384]⟩
abbrev S1x32x1x1x128x384 : Shape := ⟨6, ![1, 32, 1, 1, 128, 384]⟩
abbrev S8x32x4x4x128 : Shape := ⟨5, ![8, 32, 4, 4, 128]⟩
abbrev S8x32x4x4x128x1 : Shape := ⟨6, ![8, 32, 4, 4, 128, 1]⟩
abbrev S1x1x4x4x1x1 : Shape := ⟨6, ![1, 1, 4, 4, 1, 1]⟩
abbrev S8x32x4x64x4x128 : Shape := ⟨6, ![8, 32, 4, 64, 4, 128]⟩
abbrev S32768x1024 : Shape := ⟨2, ![32768, 1024]⟩

abbrev nBuf : Space → Nat
  | .hbm => 151
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x4096x256, .f32⟩
  | 3 => ⟨S8x4096x256, .f32⟩
  | 4 => ⟨S1x16, .f32⟩
  | 5 => ⟨S32x16, .f32⟩
  | 6 => ⟨S1x1024x1024, .f32⟩
  | 7 => ⟨S16, .f32⟩
  | 8 => ⟨S1024x1024, .f32⟩
  | 9 => ⟨S8x32x128x4x4x64, .f32⟩
  | 10 => ⟨S8x32x128x4x64, .f32⟩
  | 11 => ⟨S_, .i32⟩
  | 12 => ⟨S_, .f32⟩
  | 13 => ⟨S8x34x128x4x64, .f32⟩
  | 14 => ⟨S8x32x128x4x64, .f32⟩
  | 15 => ⟨S_, .i32⟩
  | 16 => ⟨S_, .f32⟩
  | 17 => ⟨S8x34x128x4x64, .f32⟩
  | 18 => ⟨S8x32x128x4x64, .f32⟩
  | 19 => ⟨S8x32x128x4x64, .f32⟩
  | 20 => ⟨S8x32x128x4x64, .f32⟩
  | 21 => ⟨S8x32x384x4x64, .f32⟩
  | 22 => ⟨S8x32x128x4x64, .f32⟩
  | 23 => ⟨S8x32x128x4x64, .f32⟩
  | 24 => ⟨S8x32x128x4x64, .f32⟩
  | 25 => ⟨S8x32x384x4x64, .f32⟩
  | 26 => ⟨S128, .i32⟩
  | 27 => ⟨S128x1, .i32⟩
  | 28 => ⟨S384, .i32⟩
  | 29 => ⟨S1x384, .i32⟩
  | 30 => ⟨S_, .i32⟩
  | 31 => ⟨S1x384, .i32⟩
  | 32 => ⟨S1x384, .i32⟩
  | 33 => ⟨S128x384, .i32⟩
  | 34 => ⟨S128x384, .i32⟩
  | 35 => ⟨S128x384, .i32⟩
  | 36 => ⟨S128x384, .i32⟩
  | 37 => ⟨S_, .i32⟩
  | 38 => ⟨S128x384, .i32⟩
  | 39 => ⟨S128x384, .i1⟩
  | 40 => ⟨S_, .i32⟩
  | 41 => ⟨S128x384, .i32⟩
  | 42 => ⟨S128x384, .i1⟩
  | 43 => ⟨S_, .i32⟩
  | 44 => ⟨S_, .i32⟩
  | 45 => ⟨S128x384, .i32⟩
  | 46 => ⟨S128x384, .i32⟩
  | 47 => ⟨S128x384, .i32⟩
  | 48 => ⟨S128x384, .i32⟩
  | 49 => ⟨S_, .i32⟩
  | 50 => ⟨S128x384, .i32⟩
  | 51 => ⟨S128x384, .i32⟩
  | 52 => ⟨S128x384, .f32⟩
  | 53 => ⟨S_, .f32⟩
  | 54 => ⟨S128x384, .f32⟩
  | 55 => ⟨S128x384, .f32⟩
  | 56 => ⟨S128x384, .f32⟩
  | 57 => ⟨S_, .f32⟩
  | 58 => ⟨S128x384, .f32⟩
  | 59 => ⟨S128x384, .f32⟩
  | 60 => ⟨S_, .f32⟩
  | 61 => ⟨S128x384, .f32⟩
  | 62 => ⟨S128x384, .f32⟩
  | 63 => ⟨S128x384, .i32⟩
  | 64 => ⟨S_, .i32⟩
  | 65 => ⟨S128x384, .i32⟩
  | 66 => ⟨S128x384, .i32⟩
  | 67 => ⟨S_, .i32⟩
  | 68 => ⟨S128x384, .i32⟩
  | 69 => ⟨S128x384, .i32⟩
  | 70 => ⟨S_, .i32⟩
  | 71 => ⟨S128x384, .i32⟩
  | 72 => ⟨S128x384, .i1⟩
  | 73 => ⟨S128x384, .i32⟩
  | 74 => ⟨S128x384, .i32⟩
  | 75 => ⟨S128x384, .i32⟩
  | 76 => ⟨S_, .i32⟩
  | 77 => ⟨S128x384, .i32⟩
  | 78 => ⟨S128x384, .i1⟩
  | 79 => ⟨S_, .i32⟩
  | 80 => ⟨S128x384, .i32⟩
  | 81 => ⟨S128x384, .i32⟩
  | 82 => ⟨S128x384, .i32⟩
  | 83 => ⟨S128x384x1, .i32⟩
  | 84 => ⟨S128x384x16, .f32⟩
  | 85 => ⟨S16x128x384, .f32⟩
  | 86 => ⟨S4x4x128x384, .f32⟩
  | 87 => ⟨S4x4x1x1, .f32⟩
  | 88 => ⟨S32, .i32⟩
  | 89 => ⟨S32x1x1, .i32⟩
  | 90 => ⟨S_, .i32⟩
  | 91 => ⟨S32x1x1, .i32⟩
  | 92 => ⟨S32x1x1, .i32⟩
  | 93 => ⟨S_, .i32⟩
  | 94 => ⟨S32x1x1, .i32⟩
  | 95 => ⟨S32x1x1, .i32⟩
  | 96 => ⟨S1x1x384, .i32⟩
  | 97 => ⟨S32x1x384, .i32⟩
  | 98 => ⟨S32x1x384, .i32⟩
  | 99 => ⟨S32x1x384, .i32⟩
  | 100 => ⟨S_, .i32⟩
  | 101 => ⟨S32x1x384, .i32⟩
  | 102 => ⟨S32x1x384, .i1⟩
  | 103 => ⟨S1x128x384, .i1⟩
  | 104 => ⟨S32x128x384, .i1⟩
  | 105 => ⟨S32x128x384, .i1⟩
  | 106 => ⟨S32x128x384, .i1⟩
  | 107 => ⟨S_, .i32⟩
  | 108 => ⟨S32x1x384, .i32⟩
  | 109 => ⟨S32x1x384, .i1⟩
  | 110 => ⟨S32x128x384, .i1⟩
  | 111 => ⟨S32x128x384, .i1⟩
  | 112 => ⟨S8x32x4x384x128x4, .f32⟩
  | 113 => ⟨S8x32x4x4x128x384, .f32⟩
  | 114 => ⟨S_, .f32⟩
  | 115 => ⟨S8x32x4x4x128x384, .f32⟩
  | 116 => ⟨S8x32x4x4x128x384, .f32⟩
  | 117 => ⟨S1x1x4x4x128x384, .f32⟩
  | 118 => ⟨S8x32x4x4x128x384, .f32⟩
  | 119 => ⟨S8x32x4x4x128x384, .f32⟩
  | 120 => ⟨S1x32x1x1x128x384, .i1⟩
  | 121 => ⟨S_, .f32⟩
  | 122 => ⟨S_, .f32⟩
  | 123 => ⟨S8x32x4x4x128x384, .i1⟩
  | 124 => ⟨S8x32x4x4x128x384, .f32⟩
  | 125 => ⟨S8x32x4x4x128x384, .f32⟩
  | 126 => ⟨S_, .f32⟩
  | 127 => ⟨S8x32x4x4x128, .f32⟩
  | _ => ⟨S8x4096x1024, .f32⟩

abbrev hbmTy0_1 (i : Nat) : BufTy := match i % 128 with
  | 0 => ⟨S8x32x4x4x128x1, .f32⟩
  | 1 => ⟨S1x1x4x4x1x1, .f32⟩
  | 2 => ⟨S8x32x4x4x128x1, .f32⟩
  | 3 => ⟨S8x32x4x4x128x1, .f32⟩
  | 4 => ⟨S8x32x4x4x128x384, .f32⟩
  | 5 => ⟨S8x32x4x4x128x384, .f32⟩
  | 6 => ⟨S8x32x4x4x128x384, .f32⟩
  | 7 => ⟨S_, .f32⟩
  | 8 => ⟨S8x32x4x4x128, .f32⟩
  | 9 => ⟨S8x32x4x4x128x1, .f32⟩
  | 10 => ⟨S1x1x4x4x1x1, .f32⟩
  | 11 => ⟨S8x32x4x4x128x1, .f32⟩
  | 12 => ⟨S8x32x4x4x128x1, .f32⟩
  | 13 => ⟨S8x32x4x4x128x1, .f32⟩
  | 14 => ⟨S8x32x4x4x128x1, .f32⟩
  | 15 => ⟨S8x32x4x4x128x384, .f32⟩
  | 16 => ⟨S8x32x4x4x128x384, .f32⟩
  | 17 => ⟨S8x32x4x64x4x128, .f32⟩
  | 18 => ⟨S8x32x128x4x4x64, .f32⟩
  | 19 => ⟨S8x4096x1024, .f32⟩
  | 20 => ⟨S8x4096x1024, .f32⟩
  | 21 => ⟨S8x4096x1024, .f32⟩
  | 22 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_12 : Ref sig .tc := ⟨.hbm, 76, rfl⟩
abbrev main_v51 : Ref sig .tc := ⟨.hbm, 77, rfl⟩
abbrev main_v52 : Ref sig .tc := ⟨.hbm, 78, rfl⟩
abbrev main_c_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v89 : Ref sig .tc := ⟨.hbm, 125, rfl⟩
abbrev main_cst_20 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]
-- ==== Proof.Rows.lean ====
/- Functions of one row of activations, over the extended reals: the root-mean-square normalisation, the gated
   feed-forward branch, and the regrouping of its long sum into slices of 256. -/
module

public import Idealize.ShloMosaic.Lib.Pointwise

@[expose] public section

noncomputable section

namespace Cert.Rows

open Idealize.ShloMosaic

/-- Entry `k` of the row `x` divided by its root mean square and scaled by `g`. -/
def rms (x g : Fin 1024 → EReal) (k : Fin 1024) : EReal :=
  x k * Ideal.rsqrt (Ideal.div (∑ j, x j * x j) (Ideal.ofBits FTy.f32 1149239296#32) + Ideal.ofBits FTy.f32 897988541#32) * g k

/-- The inner product of the row `h` with column `f` of the matrix `w`. -/
def lin {n : ℕ} (h : Fin 1024 → EReal) (w : Fin 1024 → Fin n → EReal) (f : Fin n) : EReal := ∑ j, h j * w j f

/-- The gated hidden unit `f` of the feed-forward branch: the gate's projection times its logistic times the other projection. -/
def unit (h : Fin 1024 → EReal) (wg wu : Fin 1024 → Fin 2816 → EReal) (f : Fin 2816) : EReal :=
  lin h wg f * Ideal.logistic (lin h wg f) * lin h wu f

/-- Entry `k` of the feed-forward branch with its residual. -/
def ffn (x g : Fin 1024 → EReal) (wg wu : Fin 1024 → Fin 2816 → EReal) (wd : Fin 2816 → Fin 1024 → EReal) (k : Fin 1024) : EReal :=
  x k + ∑ f, unit (rms x g) wg wu f * wd f k

/-- A slice of 256 units from `o`, its share of the sum over the units. -/
def slice (u : Fin 2816 → EReal) (o : ℕ) (ho : o + 256 ≤ 2816) : EReal := ∑ j : Fin 256, u ⟨o + j.val, by omega⟩

/-- The sum over the 2816 units, slice by slice. -/
theorem sum_slices (u : Fin 2816 → EReal) : ∑ f, u f
    = slice u 0 (by omega) + slice u 256 (by omega) + slice u 512 (by omega) + slice u 768 (by omega) + slice u 1024 (by omega)
      + slice u 1280 (by omega) + slice u 1536 (by omega) + slice u 1792 (by omega) + slice u 2048 (by omega) + slice u 2304 (by omega)
      + slice u 2560 (by omega) := by
  have h : ∑ f, u f = ∑ p : Fin 11, ∑ j : Fin 256, u ⟨256 * p.val + j.val, by omega⟩ := by
    rw [← Fintype.sum_prod_type' (f := fun (p : Fin 11) (j : Fin 256) => u ⟨256 * p.val + j.val, by omega⟩)]
    refine (Fintype.sum_equiv (finProdFinEquiv (m := 11) (n := 256)) _ _ fun p => ?_).symm
    refine congrArg u (Fin.ext ?_)
    show 256 * p.1.val + p.2.val = p.2.val + 256 * p.1.val
    omega
  have h11 : ∀ S : Fin 11 → EReal, ∑ p, S p = S 0 + S 1 + S 2 + S 3 + S 4 + S 5 + S 6 + S 7 + S 8 + S 9 + S 10 := fun S => by
    simp only [Fin.sum_univ_succ, Fin.sum_univ_zero, add_zero, add_assoc]; rfl
  rw [h, h11]
  rfl

end Cert.Rows

end
-- ==== Proof.FfnBlock.lean ====
/- The feed-forward call's block: what one grid point leaves in its output block, row by row. The body adds the
   hidden units' contributions to the residual in five steps of 512 units and one of 256; the sums regroup. -/
module

public import proofs.«01_k».proof.Proof.Gen.Kernel2Ideal.Frame
public import proofs.«01_k».proof.Proof.Rows
public import Idealize.ShloMosaic.Lib.Pipeline.ValueKit
public import Idealize.ShloMosaic.Lib.Pipeline.ReadBack

@[expose] public section

set_option maxRecDepth 16384

noncomputable section

namespace Cert.Kernel2Ideal.FfnValue

open Cert.Kernel2Ideal Cert.Kernel2Ideal.Gen Idealize.ShloMosaic Idealize.ShloMosaic.TcCoe Idealize.SL.Sem
open Idealize.ShloMosaic.Pipeline (Dat)

variable (x0 : Vec Ideal S1024x1024 .f32) (x1 : Vec Ideal S1x1024 .f32) (x2 x3 : Vec Ideal S1x1024x2816 .bf16) (x4 : Vec Ideal S1x2816x1024 .bf16) (x5 : Vec Ideal S1x1024 .f32)

/-- The normalised rows, as the body keeps them in scratch. -/
def hid : FVec Ideal S1024x1024 .bf16 := k0_pay3 (F := Ideal) x0 x1

theorem hid_at (r k : Fin 1024) : hid x0 x1 (ix2 r k) = Rows.rms (fun j => x0 (ix2 r j)) (fun j => x1 (ix2 0 j)) k := by
  unfold hid Rows.rms
  pointwise [k0_pay3, k0_pay2]

variable (h : FVec Ideal S1024x1024 .bf16) (acc : Vec Ideal S1024x1024 .f32)

/-- Hidden unit `f`'s contribution to entry `k` of row `r`. -/
abbrev un (r : Fin 1024) (k : Fin 1024) : Fin 2816 → EReal :=
  fun f => Rows.unit (fun j => h (ix2 r j)) (fun j f => x2 (ix3 0 j f)) (fun j f => x3 (ix3 0 j f)) f * x4 (ix3 0 f k)

/-- The accumulator after step 1. -/
def acc1 : Vec Ideal S1024x1024 .f32 := k0_pay6 (F := Ideal) h (k0_pay5 (F := Ideal) h (View.ld x2 (Rect.unit ![0, 0, 0] ![1, 1024, 256] inb_S1x1024x2816_S1x1024x256_0_0_0)) (View.ld x3 (Rect.unit ![0, 0, 0] ![1, 1024, 256] inb_S1x1024x2816_S1x1024x256_0_0_0))) (View.ld x2 (Rect.unit ![0, 0, 256] ![1, 1024, 256] inb_S1x1024x2816_S1x1024x256_0_0_256)) (View.ld x3 (Rect.unit ![0, 0, 256] ![1, 1024, 256] inb_S1x1024x2816_S1x1024x256_0_0_256)) (View.ld x4 (Rect.unit ![0, 0, 0] ![1, 512, 1024] inb_S1x2816x1024_S1x512x1024_0_0_0)) acc

theorem acc1_at (r k : Fin 1024) :
    acc1 x2 x3 x4 h acc (ix2 r k) = acc (ix2 r k) + (Rows.slice (un x2 x3 x4 h r k) 0 (by omega) + Rows.slice (un x2 x3 x4 h r k) 256 (by omega)) := by
  unfold acc1 Rows.slice un Rows.unit Rows.lin
  pointwise [k0_pay6, k0_pay5]

/-- The accumulator after step 2. -/
def acc2 : Vec Ideal S1024x1024 .f32 := k0_pay9 (F := Ideal) h (k0_pay7 (F := Ideal) h (View.ld x2 (Rect.unit ![0, 0, 512] ![1, 1024, 256] inb_S1x1024x2816_S1x1024x256_0_0_512)) (View.ld x3 (Rect.unit ![0, 0, 512] ![1, 1024, 256] inb_S1x1024x2816_S1x1024x256_0_0_512))) (k0_pay8 (F := Ideal) h (View.ld x2 (Rect.unit ![0, 0, 768] ![1, 1024, 256] inb_S1x1024x2816_S1x1024x256_0_0_768))) (View.ld x3 (Rect.unit ![0, 0, 768] ![1, 1024, 256] inb_S1x1024x2816_S1x1024x256_0_0_768)) (View.ld x4 (Rect.unit ![0, 512, 0] ![1, 512, 1024] inb_S1x2816x1024_S1x512x1024_0_512_0)) acc

theorem acc2_at (r k : Fin 1024) :
    acc2 x2 x3 x4 h acc (ix2 r k) = acc (ix2 r k) + (Rows.slice (un x2 x3 x4 h r k) 512 (by omega) + Rows.slice (un x2 x3 x4 h r k) 768 (by omega)) := by
  unfold acc2 Rows.slice un Rows.unit Rows.lin
  pointwise [k0_pay9, k0_pay7, k0_pay8]
  have e : ∀ x : Fin 256, 512 + (256 + x.val) = 768 + x.val := fun x => by omega
  simp only [e]

/-- The accumulator after step 3. -/
def acc3 : Vec Ideal S1024x1024 .f32 := k0_pay13 (F := Ideal) (k0_pay10 (F := Ideal) h (View.ld x2 (Rect.unit ![0, 0, 1024] ![1, 1024, 256] inb_S1x1024x2816_S1x1024x256_0_0_1024)) (View.ld x3 (Rect.unit ![0, 0, 1024] ![1, 1024, 256] inb_S1x1024x2816_S1x1024x256_0_0_1024))) (k0_pay11 (F := Ideal) h (View.ld x2 (Rect.unit ![0, 0, 1280] ![1, 1024, 256] inb_S1x1024x2816_S1x1024x256_0_0_1280))) (k0_pay12 (F := Ideal) h (View.ld x3 (Rect.unit ![0, 0, 1280] ![1, 1024, 256] inb_S1x1024x2816_S1x1024x256_0_0_1280))) (View.ld x4 (Rect.unit ![0, 1024, 0] ![1, 512, 1024] inb_S1x2816x1024_S1x512x1024_0_1024_0)) acc

theorem acc3_at (r k : Fin 1024) :
    acc3 x2 x3 x4 h acc (ix2 r k) = acc (ix2 r k) + (Rows.slice (un x2 x3 x4 h r k) 1024 (by omega) + Rows.slice (un x2 x3 x4 h r k) 1280 (by omega)) := by
  unfold acc3 Rows.slice un Rows.unit Rows.lin
  pointwise [k0_pay13, k0_pay10, k0_pay11, k0_pay12]
  have e : ∀ x : Fin 256, 1024 + (256 + x.val) = 1280 + x.val := fun x => by omega
  simp only [e]

/-- The accumulator after step 4. -/
def acc4 : Vec Ideal S1024x1024 .f32 := k0_pay15 (F := Ideal) (k0_pay14 (F := Ideal) h (View.ld x2 (Rect.unit ![0, 0, 1536] ![1, 1024, 256] inb_S1x1024x2816_S1x1024x256_0_0_1536)) (View.ld x3 (Rect.unit ![0, 0, 1536] ![1, 1024, 256] inb_S1x1024x2816_S1x1024x256_0_0_1536)) (View.ld x2 (Rect.unit ![0, 0, 1792] ![1, 1024, 256] inb_S1x1024x2816_S1x1024x256_0_0_1792)) (View.ld x3 (Rect.unit ![0, 0, 1792] ![1, 1024, 256] inb_S1x1024x2816_S1x1024x256_0_0_1792))) (View.ld x4 (Rect.unit ![0, 1536, 0] ![1, 512, 1024] inb_S1x2816x1024_S1x512x1024_0_1536_0)) acc

theorem acc4_at (r k : Fin 1024) :
    acc4 x2 x3 x4 h acc (ix2 r k) = acc (ix2 r k) + (Rows.slice (un x2 x3 x4 h r k) 1536 (by omega) + Rows.slice (un x2 x3 x4 h r k) 1792 (by omega)) := by
  unfold acc4 Rows.slice un Rows.unit Rows.lin
  pointwise [k0_pay15, k0_pay14]
  have e : ∀ x : Fin 256, 1536 + (256 + x.val) = 1792 + x.val := fun x => by omega
  simp only [e]

/-- The accumulator after step 5. -/
def acc5 : Vec Ideal S1024x1024 .f32 := k0_pay17 (F := Ideal) (k0_pay16 (F := Ideal) h (View.ld x2 (Rect.unit ![0, 0, 2048] ![1, 1024, 256] inb_S1x1024x2816_S1x1024x256_0_0_2048)) (View.ld x3 (Rect.unit ![0, 0, 2048] ![1, 1024, 256] inb_S1x1024x2816_S1x1024x256_0_0_2048)) (View.ld x2 (Rect.unit ![0, 0, 2304] ![1, 1024, 256] inb_S1x1024x2816_S1x1024x256_0_0_2304)) (View.ld x3 (Rect.unit ![0, 0, 2304] ![1, 1024, 256] inb_S1x1024x2816_S1x1024x256_0_0_2304)) (View.ld x4 (Rect.unit ![0, 2048, 0] ![1, 512, 1024] inb_S1x2816x1024_S1x512x1024_0_2048_0))) acc

theorem acc5_at (r k : Fin 1024) :
    acc5 x2 x3 x4 h acc (ix2 r k) = acc (ix2 r k) + (Rows.slice (un x2 x3 x4 h r k) 2048 (by omega) + Rows.slice (un x2 x3 x4 h r k) 2304 (by omega)) := by
  unfold acc5 Rows.slice un Rows.unit Rows.lin
  pointwise [k0_pay17, k0_pay16]
  have e : ∀ x : Fin 256, 2048 + (256 + x.val) = 2304 + x.val := fun x => by omega
  simp only [e]

/-- The last 256 units' contribution. -/
def down : FVec Ideal S1024x1024 .f32 := k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0))

theorem down_at (r k : Fin 1024) : down x2 x3 x4 h (ix2 r k) = Rows.slice (un x2 x3 x4 h r k) 2560 (by omega) := by
  unfold down Rows.slice un Rows.unit Rows.lin
  pointwise [k0_pay18]

/-- The accumulator the last step reads. -/
def accs : Vec Ideal S1024x1024 .f32 :=
  acc5 x2 x3 x4 h (acc4 x2 x3 x4 h (acc3 x2 x3 x4 h (acc2 x2 x3 x4 h (acc1 x2 x3 x4 h acc))))

theorem total_at (r k : Fin 1024) : accs x2 x3 x4 h acc (ix2 r k) + down x2 x3 x4 h (ix2 r k) = acc (ix2 r k) + ∑ f, un x2 x3 x4 h r k f := by
  unfold accs
  rw [acc5_at, acc4_at, acc3_at, acc2_at, acc1_at, down_at, Rows.sum_slices]
  simp only [add_assoc]

/-- A row with its feed-forward branch added. -/
theorem ffn_at (r k : Fin 1024) : accs x2 x3 x4 (hid x0 x1) (k0_pay4 (F := Ideal) x0) (ix2 r k) + down x2 x3 x4 (hid x0 x1) (ix2 r k)
    = Rows.ffn (fun j => x0 (ix2 r j)) (fun j => x1 (ix2 0 j)) (fun j f => x2 (ix3 0 j f)) (fun j f => x3 (ix3 0 j f)) (fun f k => x4 (ix3 0 f k)) k := by
  rw [total_at]
  unfold Rows.ffn un
  have h0 : k0_pay4 (F := Ideal) x0 (ix2 r k) = x0 (ix2 r k) := by pointwise [k0_pay4, k0_pay2]
  have h1 : (fun j => hid x0 x1 (ix2 r j)) = Rows.rms (fun j => x0 (ix2 r j)) (fun j => x1 (ix2 0 j)) := funext fun j => hid_at x0 x1 r j
  rw [h0, h1]

/-- The final normalisation of the rows whose two summands are `D` and `A`. -/
theorem last_at (D : FVec Ideal S1024x1024 .f32) (A : Vec Ideal S1024x1024 .f32) (Y : Fin 1024 → Fin 1024 → EReal) (hY : ∀ r k, A (ix2 r k) + D (ix2 r k) = Y r k) (a : Fin 256) (k : Fin 1024) :
    k0_pay1 (F := Ideal) D (View.ld A (Rect.unit ![768, 0] ![256, 1024] inb_S1024x1024_S256x1024_768_0)) x5 (ix2 a k) = Rows.rms (Y ⟨768 + a.val, by omega⟩) (fun j => x5 (ix2 0 j)) k
    ∧ k0_pay21 (F := Ideal) D (View.ld A (Rect.unit ![512, 0] ![256, 1024] inb_S1024x1024_S256x1024_512_0)) x5 (ix2 a k) = Rows.rms (Y ⟨512 + a.val, by omega⟩) (fun j => x5 (ix2 0 j)) k
    ∧ k0_pay20 (F := Ideal) D (View.ld A (Rect.unit ![256, 0] ![256, 1024] inb_S1024x1024_S256x1024_256_0)) x5 (ix2 a k) = Rows.rms (Y ⟨256 + a.val, by omega⟩) (fun j => x5 (ix2 0 j)) k := by
  unfold Rows.rms
  refine ⟨?_, ?_, ?_⟩
  · simp only [← hY]; pointwise [k0_pay1]
  · simp only [← hY]; pointwise [k0_pay21]
  · simp only [← hY]; pointwise [k0_pay20]

theorem first_at (A : Vec Ideal S1024x1024 .f32) (Y : Fin 1024 → Fin 1024 → EReal) (hY : ∀ r k, A (ix2 r k) + down x2 x3 x4 h (ix2 r k) = Y r k) (a : Fin 256) (k : Fin 1024) :
    k0_pay19 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) (View.ld A (Rect.unit ![0, 0] ![256, 1024] inb_S1024x1024_S256x1024_0_0)) x5 (ix2 a k)
      = Rows.rms (Y ⟨a.val, by omega⟩) (fun j => x5 (ix2 0 j)) k := by
  unfold k0_pay19
  change ∀ r k, A (ix2 r k) + k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) (ix2 r k) = Y r k at hY
  generalize k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) = D at hY ⊢
  unfold Rows.rms
  simp only [← hY]; pointwise

/-- The four stored slabs of 256 rows, read at row `r`. -/
theorem slabs_at (D : FVec Ideal S1024x1024 .f32) (A : Vec Ideal S1024x1024 .f32) (P : Vec Ideal S256x1024 .f32) (Y : Fin 1024 → Fin 1024 → EReal)
    (hY : ∀ r k, A (ix2 r k) + D (ix2 r k) = Y r k)
    (hP : ∀ (a : Fin 256) (k : Fin 1024), P (ix2 a k) = Rows.rms (Y ⟨a.val, by omega⟩) (fun j => x5 (ix2 0 j)) k) (r k : Fin 1024) :
    View.canon (Val := Elt Ideal) (s := S1024x1024) (e := .f32)
      [⟨Rect.unit ![768, 0] ![256, 1024] inb_S1024x1024_S256x1024_768_0, k0_pay1 (F := Ideal) D (View.ld A (Rect.unit ![768, 0] ![256, 1024] inb_S1024x1024_S256x1024_768_0)) x5⟩,
       ⟨Rect.unit ![512, 0] ![256, 1024] inb_S1024x1024_S256x1024_512_0, k0_pay21 (F := Ideal) D (View.ld A (Rect.unit ![512, 0] ![256, 1024] inb_S1024x1024_S256x1024_512_0)) x5⟩,
       ⟨Rect.unit ![256, 0] ![256, 1024] inb_S1024x1024_S256x1024_256_0, k0_pay20 (F := Ideal) D (View.ld A (Rect.unit ![256, 0] ![256, 1024] inb_S1024x1024_S256x1024_256_0)) x5⟩,
       ⟨Rect.unit ![0, 0] ![256, 1024] inb_S1024x1024_S256x1024_0_0, P⟩] (ix2 r k)
      = Rows.rms (Y r) (fun j => x5 (ix2 0 j)) k := by
  have hl := last_at x5 D A Y hY
  generalize k0_pay1 (F := Ideal) D (View.ld A (Rect.unit ![768, 0] ![256, 1024] inb_S1024x1024_S256x1024_768_0)) x5 = P3 at hl ⊢
  generalize k0_pay21 (F := Ideal) D (View.ld A (Rect.unit ![512, 0] ![256, 1024] inb_S1024x1024_S256x1024_512_0)) x5 = P2 at hl ⊢
  generalize k0_pay20 (F := Ideal) D (View.ld A (Rect.unit ![256, 0] ![256, 1024] inb_S1024x1024_S256x1024_256_0)) x5 = P1 at hl ⊢
  canon_tiles x hx
  all_goals
    obtain ⟨a, b, rfl⟩ : ∃ (a : Fin 256) (b : Fin 1024), x = ix2 a b := ⟨x 0, x 1, funext fun i => by fin_cases i <;> rfl⟩
    obtain rfl : k = b := Fin.ext hx1
    change r.val = _ at hx0
  · rw [show r = ⟨768 + a.val, by omega⟩ from Fin.ext hx0]
    exact (hl a k).1
  · rw [show r = ⟨512 + a.val, by omega⟩ from Fin.ext hx0]
    exact (hl a k).2.1
  · rw [show r = ⟨256 + a.val, by omega⟩ from Fin.ext hx0]
    exact (hl a k).2.2
  · rw [show r = ⟨a.val, by omega⟩ from Fin.ext hx0]
    exact hP a k

variable (m : (ℓ : Loc nD τ sig) → Buf (Elt Ideal) ℓ)

variable (m : (ℓ : Loc nD τ sig) → Buf (Elt Ideal) ℓ)

/-- What a grid point leaves in the output block, at row `r`. -/
theorem out_at (c : Dev nD) (t : Fin cfg0.N) (r k : Fin 1024) (x0 : Vec Ideal S1024x1024 .f32) (x1 : Vec Ideal S1x1024 .f32) (x2 x3 : Vec Ideal S1x1024x2816 .bf16) (x4 : Vec Ideal S1x2816x1024 .bf16) (x5 : Vec Ideal S1x1024 .f32)
    (h0 : iblk m c 0 t = x0) (h1 : iblk m c 1 t = x1) (h2 : iblk m c 2 t = x2) (h3 : iblk m c 3 t = x3) (h4 : iblk m c 4 t = x4) (h5 : iblk m c 5 t = x5) :
    outsAt0 m c t (ix2 r k)
      = Rows.rms (Rows.ffn (fun j => x0 (ix2 r j)) (fun j => x1 (ix2 0 j)) (fun j f => x2 (ix3 0 j f)) (fun j f => x3 (ix3 0 j f)) (fun f k => x4 (ix3 0 f k))) (fun j => x5 (ix2 0 j)) k := by
  unfold outsAt0
  frame_out
  simp (disch := decide) only [View.readCov_fill]
  simp only [h0, h1, h2, h3, h4, h5]
  exact slabs_at x5 _ _ _ _ (ffn_at x0 x1 x2 x3 x4) (first_at x2 x3 x4 x5 (hid x0 x1) _ _ (ffn_at x0 x1 x2 x3 x4)) r k

end Cert.Kernel2Ideal.FfnValue

end
-- ==== Proof.FfnRef.lean ====
/- The feed-forward reference, read at one row: normalisation, gated branch with its residual, final normalisation. -/
module

public import proofs.«01_k».proof.Proof.Gen.Reference2Ideal.Read
public import proofs.«01_k».proof.Proof.Rows

@[expose] public section
set_option maxRecDepth 16384
noncomputable section
namespace Cert.Reference2Ideal.FfnRef
open Cert.Reference2Ideal Cert.Reference2Ideal.Gen Cert.Reference2Ideal.Read Idealize.ShloMosaic Idealize.ShloMosaic.TcCoe Idealize.SL.Sem

variable (x : FVec Ideal S8x4096x1024 .f32) (g : FVec Ideal S2x1024 .f32) (wg wu : FVec Ideal S2x1024x2816 .f32) (wd : FVec Ideal S2x2816x1024 .f32) (gf : FVec Ideal S1024 .f32)

/-- The normalised row the branch starts from. -/
theorem h_at (b : Fin 8) (s : Fin 4096) (k : Fin 1024) :
    val_main_v14 (F := Ideal) x g (ix3 b s k) = Rows.rms (fun j => x (ix3 b s j)) (fun j => g (ix2 1 j)) k := by
  unfold Rows.rms
  pointwise [val_main_v14, val_main_v13, val_main_v12, val_main_v1, val_main_v0, val_main_v11, val_main_v10, val_main_v9, val_main_v8, val_main_v7, val_main_cst_1, val_main_v6, val_main_v5, val_main_cst_0, val_main_v4, val_main_v3, val_main_v2, val_main_cst]

theorem unit_at (b : Fin 8) (s : Fin 4096) (f : Fin 2816) :
    val_main_v24 (F := Ideal) x g wg wu (ix3 b s f)
      = Rows.unit (Rows.rms (fun j => x (ix3 b s j)) (fun j => g (ix2 1 j))) (fun j f => wg (ix3 1 j f)) (fun j f => wu (ix3 1 j f)) f := by
  unfold Rows.unit Rows.lin
  have h := h_at x g b s
  unfold val_main_v24 val_main_v23 val_main_v22 val_main_call0_v5 val_main_call0_v3 val_main_call0_v1 val_main_call0_v0 val_main_v21
  generalize val_main_v14 (F := Ideal) x g = H at h
  simp only [← h]
  pointwise [val_main_call0_v4, val_main_call0_v2, val_main_call0_cst, val_main_call0_cst_0, val_main_v16, val_main_v15, val_main_v18, val_main_v17]
  rfl

theorem res_at (b : Fin 8) (s : Fin 4096) (k : Fin 1024) :
    val_main_v26 (F := Ideal) x g wg wu wd (ix3 b s k)
      = Rows.ffn (fun j => x (ix3 b s j)) (fun j => g (ix2 1 j)) (fun j f => wg (ix3 1 j f)) (fun j f => wu (ix3 1 j f)) (fun f k => wd (ix3 1 f k)) k := by
  unfold Rows.ffn
  have h := unit_at x g wg wu b s
  unfold val_main_v26 val_main_v25
  generalize val_main_v24 (F := Ideal) x g wg wu = U at h
  simp only [← h]
  pointwise [val_main_v20, val_main_v19]

theorem out_at (b : Fin 8) (s : Fin 4096) (r : Fin 32768) (hr : r.val = 4096 * b.val + s.val) (k : Fin 1024) :
    val_main_v40 (F := Ideal) x g wg wu wd gf (ix2 r k)
      = Rows.rms (Rows.ffn (fun j => x (ix3 b s j)) (fun j => g (ix2 1 j)) (fun j f => wg (ix3 1 j f)) (fun j f => wu (ix3 1 j f)) (fun f k => wd (ix3 1 f k)))
          (fun j => gf (ix1 j)) k := by
  unfold Rows.rms
  have h := res_at x g wg wu wd b s
  rw [val_main_v40_apply]
  have hi : idx_main_v40 (ix2 r k) = ix3 b s k := by
    funext a
    apply Fin.ext
    match a with
    | ⟨0, _⟩ => show (r.val * 1024 + k.val) / 4194304 = b.val; omega
    | ⟨1, _⟩ => show (r.val * 1024 + k.val) / 1024 % 4096 = s.val; omega
    | ⟨2, _⟩ => show (r.val * 1024 + k.val) % 1024 = k.val; omega
  rw [hi]
  unfold val_main_v39 val_main_v36 val_main_v35 val_main_v34 val_main_v33 val_main_v31 val_main_v29 val_main_v28 val_main_v27
  generalize val_main_v26 (F := Ideal) x g wg wu wd = Y at h
  rw [show (Rows.ffn (fun j => x (ix3 b s j)) (fun j => g (ix2 1 j)) (fun j f => wg (ix3 1 j f)) (fun j f => wu (ix3 1 j f)) (fun f k => wd (ix3 1 f k))) = fun k => Y (ix3 b s k) from funext fun k => (h k).symm]
  pointwise [val_main_v38, val_main_v37, val_main_v32, val_main_v30, val_main_cst_4, val_main_cst_3, val_main_cst_2]

end Cert.Reference2Ideal.FfnRef
end
end
-- ==== Proof.FfnArray.lean ====
/- The feed-forward call's result array: every grid point writes its own block of 1024 rows, so the array is the
   reference's result row by row. -/
module

public import proofs.«01_k».proof.Proof.FfnBlock
public import proofs.«01_k».proof.Proof.FfnRef
public import Idealize.ShloMosaic.Lib.Claim

@[expose] public section

set_option maxRecDepth 16384

noncomputable section

namespace Cert.Kernel2Ideal.FfnValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Every window's block index, at all grid points. -/
theorem idx : ∀ t : Fin cfg0.N, win0_0.index t = ![t.val, 0] ∧ win0_1.index t = ![0, 0] ∧ win0_2.index t = ![1, 0, 0] ∧ win0_3.index t = ![1, 0, 0]
    ∧ win0_4.index t = ![1, 0, 0] ∧ win0_5.index t = ![0, 0] ∧ win0_6.index t = ![t.val, 0] :=
  (by decide +kernel : ∀ t : Fin grid0.N, _)

theorem blk0 (c : Dev nD) (t : Fin cfg0.N) (r k : Fin 1024) (b : Fin 8) (s : Fin 4096) (hr : 1024 * t.val + r.val = 4096 * b.val + s.val) :
    (iblk m c 0 t : Vec Ideal S1024x1024 .f32) (ix2 r k) = m ((c : Thread nD τ).loc main_arg0) (ix3 b s k) := by
  blk_simp [iblk, idx t]
  entry_read
  pointwise
  blk_ext [idx t]

theorem blk1 (c : Dev nD) (t : Fin cfg0.N) (k : Fin 1024) :
    (iblk m c 1 t : Vec Ideal S1x1024 .f32) (ix2 0 k) = m ((c : Thread nD τ).loc main_arg1) (ix2 1 k) := by
  blk_simp [iblk, idx t]
  entry_read
  pointwise
  blk_ext [idx t]

theorem blk2 (c : Dev nD) (t : Fin cfg0.N) (k : Fin 1024) (f : Fin 2816) :
    (iblk m c 2 t : Vec Ideal S1x1024x2816 .bf16) (ix3 0 k f) = m ((c : Thread nD τ).loc main_arg2) (ix3 1 k f) := by
  blk_simp [iblk, idx t]
  entry_read
  pointwise
  blk_ext [idx t]

theorem blk3 (c : Dev nD) (t : Fin cfg0.N) (k : Fin 1024) (f : Fin 2816) :
    (iblk m c 3 t : Vec Ideal S1x1024x2816 .bf16) (ix3 0 k f) = m ((c : Thread nD τ).loc main_arg3) (ix3 1 k f) := by
  blk_simp [iblk, idx t]
  entry_read
  pointwise
  blk_ext [idx t]

theorem blk4 (c : Dev nD) (t : Fin cfg0.N) (f : Fin 2816) (k : Fin 1024) :
    (iblk m c 4 t : Vec Ideal S1x2816x1024 .bf16) (ix3 0 f k) = m ((c : Thread nD τ).loc main_arg4) (ix3 1 f k) := by
  blk_simp [iblk, idx t]
  entry_read
  pointwise
  blk_ext [idx t]

theorem blk5 (c : Dev nD) (t : Fin cfg0.N) (k : Fin 1024) :
    (iblk m c 5 t : Vec Ideal S1x1024 .f32) (ix2 0 k) = m ((c : Thread nD τ).loc main_arg5) (ix1 k) := by
  blk_simp [iblk, idx t]
  entry_read
  pointwise
  blk_ext [idx t]

/-- What a grid point leaves in row `r` of its block is row `1024 t + r` of the reference's result. -/
theorem point (c : Dev nD) (t : Fin cfg0.N) (r k : Fin 1024) (q : Fin 32768) (hq : q.val = 1024 * t.val + r.val) :
    outsAt0 m c t (ix2 r k) = Cert.Reference2Ideal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (ix2 q k) := by
  have hb : q.val / 4096 < 8 := by omega
  have hs : q.val % 4096 < 4096 := by omega
  have hqe : q.val = 4096 * (q.val / 4096) + q.val % 4096 := by omega
  refine (out_at m c t r k _ _ _ _ _ _ rfl rfl rfl rfl rfl rfl).trans ?_
  refine Eq.trans ?_ (Cert.Reference2Ideal.FfnRef.out_at _ _ _ _ _ _ ⟨q.val / 4096, hb⟩ ⟨q.val % 4096, hs⟩ q hqe k).symm
  have e0 := fun j => blk0 m c t r j ⟨q.val / 4096, hb⟩ ⟨q.val % 4096, hs⟩ (by show _ = 4096 * (q.val / 4096) + q.val % 4096; omega)
  have e1 := blk1 m c t
  have e2 := blk2 m c t
  have e3 := blk3 m c t
  have e4 := blk4 m c t
  have e5 := blk5 m c t
  simp only [e0, e1, e2, e3, e4, e5]

/-- The result array after the run is the reference's result. -/
theorem final (c : Dev nD) : (dats m 0 c).arrAt 6 (cfgs 0).N
    = Cert.Reference2Ideal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  obtain ⟨r, k, rfl⟩ : ∃ (r k : Fin 1024), y = ix2 r k := ⟨y 0, y 1, funext fun i => by fin_cases i <;> rfl⟩
  have ht : t.val < 32 := lt_of_lt_of_eq t.isLt (by decide +kernel : grid0.N = 32)
  refine (point m c t r k ⟨1024 * t.val + r.val, by omega⟩ rfl).trans ?_
  blk_ext [idx t]

end Cert.Kernel2Ideal.FfnValue

end
-- ==== Proof.FfnClaim.lean ====
/- The feed-forward call's value claim. -/
module

public import proofs.«01_k».proof.Defs
public import proofs.«01_k».proof.Proof.FfnArray
public import Idealize.ShloMosaic.Lib.Claim

@[expose] public section

set_option maxRecDepth 16384

noncomputable section

namespace Cert.Proof

open Idealize.ShloMosaic Idealize.SL.Sem

/-- The feed-forward kernel and its reference leave the same array, whatever the arguments. -/
theorem ffn_algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    obtain ⟨h0, h1, h2, h3, h4, h5⟩ := hagree c
    rw [Cert.Reference2Ideal.Read.val_main_v40_eq, h0, h1, h2, h3, h4, h5]
    exact (Cert.Kernel2Ideal.FfnValue.final m c).symm

end Cert.Proof

end
-- ==== Proof.Ffn0Block.lean ====
/- The block of the feed-forward call without a final normalisation: what one grid point leaves in its output block, row by row. The body adds the
   hidden units' contributions to the residual in five steps of 512 units and one of 256; the sums regroup. -/
module

public import proofs.«01_k».proof.Proof.Gen.Kernel3Ideal.Frame
public import proofs.«01_k».proof.Proof.Rows
public import Idealize.ShloMosaic.Lib.Pipeline.ValueKit
public import Idealize.ShloMosaic.Lib.Pipeline.ReadBack

@[expose] public section

set_option maxRecDepth 16384

noncomputable section

namespace Cert.Kernel3Ideal.FfnValue

open Cert.Kernel3Ideal Cert.Kernel3Ideal.Gen Idealize.ShloMosaic Idealize.ShloMosaic.TcCoe Idealize.SL.Sem
open Idealize.ShloMosaic.Pipeline (Dat)

variable (x0 : Vec Ideal S1024x1024 .f32) (x1 : Vec Ideal S1x1024 .f32) (x2 x3 : Vec Ideal S1x1024x2816 .bf16) (x4 : Vec Ideal S1x2816x1024 .bf16)

/-- The normalised rows, as the body keeps them in scratch. -/
def hid : FVec Ideal S1024x1024 .bf16 := k0_pay3 (F := Ideal) x0 x1

theorem hid_at (r k : Fin 1024) : hid x0 x1 (ix2 r k) = Rows.rms (fun j => x0 (ix2 r j)) (fun j => x1 (ix2 0 j)) k := by
  unfold hid Rows.rms
  pointwise [k0_pay3, k0_pay2]

variable (h : FVec Ideal S1024x1024 .bf16) (acc : Vec Ideal S1024x1024 .f32)

/-- Hidden unit `f`'s contribution to entry `k` of row `r`. -/
abbrev un (r : Fin 1024) (k : Fin 1024) : Fin 2816 → EReal :=
  fun f => Rows.unit (fun j => h (ix2 r j)) (fun j f => x2 (ix3 0 j f)) (fun j f => x3 (ix3 0 j f)) f * x4 (ix3 0 f k)

/-- The accumulator after step 1. -/
def acc1 : Vec Ideal S1024x1024 .f32 := k0_pay6 (F := Ideal) h (k0_pay5 (F := Ideal) h (View.ld x2 (Rect.unit ![0, 0, 0] ![1, 1024, 256] inb_S1x1024x2816_S1x1024x256_0_0_0)) (View.ld x3 (Rect.unit ![0, 0, 0] ![1, 1024, 256] inb_S1x1024x2816_S1x1024x256_0_0_0))) (View.ld x2 (Rect.unit ![0, 0, 256] ![1, 1024, 256] inb_S1x1024x2816_S1x1024x256_0_0_256)) (View.ld x3 (Rect.unit ![0, 0, 256] ![1, 1024, 256] inb_S1x1024x2816_S1x1024x256_0_0_256)) (View.ld x4 (Rect.unit ![0, 0, 0] ![1, 512, 1024] inb_S1x2816x1024_S1x512x1024_0_0_0)) acc

theorem acc1_at (r k : Fin 1024) :
    acc1 x2 x3 x4 h acc (ix2 r k) = acc (ix2 r k) + (Rows.slice (un x2 x3 x4 h r k) 0 (by omega) + Rows.slice (un x2 x3 x4 h r k) 256 (by omega)) := by
  unfold acc1 Rows.slice un Rows.unit Rows.lin
  pointwise [k0_pay6, k0_pay5]

/-- The accumulator after step 2. -/
def acc2 : Vec Ideal S1024x1024 .f32 := k0_pay9 (F := Ideal) h (k0_pay7 (F := Ideal) h (View.ld x2 (Rect.unit ![0, 0, 512] ![1, 1024, 256] inb_S1x1024x2816_S1x1024x256_0_0_512)) (View.ld x3 (Rect.unit ![0, 0, 512] ![1, 1024, 256] inb_S1x1024x2816_S1x1024x256_0_0_512))) (k0_pay8 (F := Ideal) h (View.ld x2 (Rect.unit ![0, 0, 768] ![1, 1024, 256] inb_S1x1024x2816_S1x1024x256_0_0_768))) (View.ld x3 (Rect.unit ![0, 0, 768] ![1, 1024, 256] inb_S1x1024x2816_S1x1024x256_0_0_768)) (View.ld x4 (Rect.unit ![0, 512, 0] ![1, 512, 1024] inb_S1x2816x1024_S1x512x1024_0_512_0)) acc

theorem acc2_at (r k : Fin 1024) :
    acc2 x2 x3 x4 h acc (ix2 r k) = acc (ix2 r k) + (Rows.slice (un x2 x3 x4 h r k) 512 (by omega) + Rows.slice (un x2 x3 x4 h r k) 768 (by omega)) := by
  unfold acc2 Rows.slice un Rows.unit Rows.lin
  pointwise [k0_pay9, k0_pay7, k0_pay8]
  have e : ∀ x : Fin 256, 512 + (256 + x.val) = 768 + x.val := fun x => by omega
  simp only [e]

/-- The accumulator after step 3. -/
def acc3 : Vec Ideal S1024x1024 .f32 := k0_pay13 (F := Ideal) (k0_pay10 (F := Ideal) h (View.ld x2 (Rect.unit ![0, 0, 1024] ![1, 1024, 256] inb_S1x1024x2816_S1x1024x256_0_0_1024)) (View.ld x3 (Rect.unit ![0, 0, 1024] ![1, 1024, 256] inb_S1x1024x2816_S1x1024x256_0_0_1024))) (k0_pay11 (F := Ideal) h (View.ld x2 (Rect.unit ![0, 0, 1280] ![1, 1024, 256] inb_S1x1024x2816_S1x1024x256_0_0_1280))) (k0_pay12 (F := Ideal) h (View.ld x3 (Rect.unit ![0, 0, 1280] ![1, 1024, 256] inb_S1x1024x2816_S1x1024x256_0_0_1280))) (View.ld x4 (Rect.unit ![0, 1024, 0] ![1, 512, 1024] inb_S1x2816x1024_S1x512x1024_0_1024_0)) acc

theorem acc3_at (r k : Fin 1024) :
    acc3 x2 x3 x4 h acc (ix2 r k) = acc (ix2 r k) + (Rows.slice (un x2 x3 x4 h r k) 1024 (by omega) + Rows.slice (un x2 x3 x4 h r k) 1280 (by omega)) := by
  unfold acc3 Rows.slice un Rows.unit Rows.lin
  pointwise [k0_pay13, k0_pay10, k0_pay11, k0_pay12]
  have e : ∀ x : Fin 256, 1024 + (256 + x.val) = 1280 + x.val := fun x => by omega
  simp only [e]

/-- The accumulator after step 4. -/
def acc4 : Vec Ideal S1024x1024 .f32 := k0_pay15 (F := Ideal) (k0_pay14 (F := Ideal) h (View.ld x2 (Rect.unit ![0, 0, 1536] ![1, 1024, 256] inb_S1x1024x2816_S1x1024x256_0_0_1536)) (View.ld x3 (Rect.unit ![0, 0, 1536] ![1, 1024, 256] inb_S1x1024x2816_S1x1024x256_0_0_1536)) (View.ld x2 (Rect.unit ![0, 0, 1792] ![1, 1024, 256] inb_S1x1024x2816_S1x1024x256_0_0_1792)) (View.ld x3 (Rect.unit ![0, 0, 1792] ![1, 1024, 256] inb_S1x1024x2816_S1x1024x256_0_0_1792))) (View.ld x4 (Rect.unit ![0, 1536, 0] ![1, 512, 1024] inb_S1x2816x1024_S1x512x1024_0_1536_0)) acc

theorem acc4_at (r k : Fin 1024) :
    acc4 x2 x3 x4 h acc (ix2 r k) = acc (ix2 r k) + (Rows.slice (un x2 x3 x4 h r k) 1536 (by omega) + Rows.slice (un x2 x3 x4 h r k) 1792 (by omega)) := by
  unfold acc4 Rows.slice un Rows.unit Rows.lin
  pointwise [k0_pay15, k0_pay14]
  have e : ∀ x : Fin 256, 1536 + (256 + x.val) = 1792 + x.val := fun x => by omega
  simp only [e]

/-- The accumulator after step 5. -/
def acc5 : Vec Ideal S1024x1024 .f32 := k0_pay17 (F := Ideal) (k0_pay16 (F := Ideal) h (View.ld x2 (Rect.unit ![0, 0, 2048] ![1, 1024, 256] inb_S1x1024x2816_S1x1024x256_0_0_2048)) (View.ld x3 (Rect.unit ![0, 0, 2048] ![1, 1024, 256] inb_S1x1024x2816_S1x1024x256_0_0_2048)) (View.ld x2 (Rect.unit ![0, 0, 2304] ![1, 1024, 256] inb_S1x1024x2816_S1x1024x256_0_0_2304)) (View.ld x3 (Rect.unit ![0, 0, 2304] ![1, 1024, 256] inb_S1x1024x2816_S1x1024x256_0_0_2304)) (View.ld x4 (Rect.unit ![0, 2048, 0] ![1, 512, 1024] inb_S1x2816x1024_S1x512x1024_0_2048_0))) acc

theorem acc5_at (r k : Fin 1024) :
    acc5 x2 x3 x4 h acc (ix2 r k) = acc (ix2 r k) + (Rows.slice (un x2 x3 x4 h r k) 2048 (by omega) + Rows.slice (un x2 x3 x4 h r k) 2304 (by omega)) := by
  unfold acc5 Rows.slice un Rows.unit Rows.lin
  pointwise [k0_pay17, k0_pay16]
  have e : ∀ x : Fin 256, 2048 + (256 + x.val) = 2304 + x.val := fun x => by omega
  simp only [e]

/-- The last 256 units' contribution. -/
def down : FVec Ideal S1024x1024 .f32 := k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0))

theorem down_at (r k : Fin 1024) : down x2 x3 x4 h (ix2 r k) = Rows.slice (un x2 x3 x4 h r k) 2560 (by omega) := by
  unfold down Rows.slice un Rows.unit Rows.lin
  pointwise [k0_pay18]

/-- The accumulator the last step reads. -/
def accs : Vec Ideal S1024x1024 .f32 :=
  acc5 x2 x3 x4 h (acc4 x2 x3 x4 h (acc3 x2 x3 x4 h (acc2 x2 x3 x4 h (acc1 x2 x3 x4 h acc))))

theorem total_at (r k : Fin 1024) : accs x2 x3 x4 h acc (ix2 r k) + down x2 x3 x4 h (ix2 r k) = acc (ix2 r k) + ∑ f, un x2 x3 x4 h r k f := by
  unfold accs
  rw [acc5_at, acc4_at, acc3_at, acc2_at, acc1_at, down_at, Rows.sum_slices]
  simp only [add_assoc]

/-- A row with its feed-forward branch added. -/
theorem ffn_at (r k : Fin 1024) : accs x2 x3 x4 (hid x0 x1) (k0_pay4 (F := Ideal) x0) (ix2 r k) + down x2 x3 x4 (hid x0 x1) (ix2 r k)
    = Rows.ffn (fun j => x0 (ix2 r j)) (fun j => x1 (ix2 0 j)) (fun j f => x2 (ix3 0 j f)) (fun j f => x3 (ix3 0 j f)) (fun f k => x4 (ix3 0 f k)) k := by
  rw [total_at]
  unfold Rows.ffn un
  have h0 : k0_pay4 (F := Ideal) x0 (ix2 r k) = x0 (ix2 r k) := by pointwise [k0_pay4, k0_pay2]
  have h1 : (fun j => hid x0 x1 (ix2 r j)) = Rows.rms (fun j => x0 (ix2 r j)) (fun j => x1 (ix2 0 j)) := funext fun j => hid_at x0 x1 r j
  rw [h0, h1]

/-- The four stored slabs of 256 rows, whose summands are `A` and the last step's contribution, read at row `r`. -/
theorem slabs_at (A : Vec Ideal S1024x1024 .f32) (r k : Fin 1024) :
    View.canon (Val := Elt Ideal) (s := S1024x1024) (e := .f32)
      [⟨Rect.unit ![768, 0] ![256, 1024] inb_S1024x1024_S256x1024_768_0, k0_pay1 (F := Ideal) (k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0))) (View.ld A (Rect.unit ![768, 0] ![256, 1024] inb_S1024x1024_S256x1024_768_0))⟩,
       ⟨Rect.unit ![512, 0] ![256, 1024] inb_S1024x1024_S256x1024_512_0, k0_pay21 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) (View.ld A (Rect.unit ![512, 0] ![256, 1024] inb_S1024x1024_S256x1024_512_0))⟩,
       ⟨Rect.unit ![256, 0] ![256, 1024] inb_S1024x1024_S256x1024_256_0, k0_pay20 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) (View.ld A (Rect.unit ![256, 0] ![256, 1024] inb_S1024x1024_S256x1024_256_0))⟩,
       ⟨Rect.unit ![0, 0] ![256, 1024] inb_S1024x1024_S256x1024_0_0, k0_pay19 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) (View.ld A (Rect.unit ![0, 0] ![256, 1024] inb_S1024x1024_S256x1024_0_0))⟩] (ix2 r k)
      = A (ix2 r k) + down x2 x3 x4 h (ix2 r k) := by
  unfold k0_pay19 k0_pay20 k0_pay21 down
  generalize k0_pay18 (F := Ideal) h (View.ld x2 (Rect.unit ![0, 0, 2560] ![1, 1024, 256] inb_S1x1024x2816_S1x1024x256_0_0_2560)) (View.ld x3 (Rect.unit ![0, 0, 2560] ![1, 1024, 256] inb_S1x1024x2816_S1x1024x256_0_0_2560)) (View.ld x4 (Rect.unit ![0, 2560, 0] ![1, 256, 1024] inb_S1x2816x1024_S1x256x1024_0_2560_0)) = D
  canon_tiles x hx
  all_goals
    obtain ⟨a, b, rfl⟩ : ∃ (a : Fin 256) (b : Fin 1024), x = ix2 a b := ⟨x 0, x 1, funext fun i => by fin_cases i <;> rfl⟩
    obtain rfl : k = b := Fin.ext hx1
    change r.val = _ at hx0
  · rw [show r = ⟨768 + a.val, by omega⟩ from Fin.ext hx0]
    pointwise [k0_pay1]
  · rw [show r = ⟨512 + a.val, by omega⟩ from Fin.ext hx0]
    pointwise [k0_pay1]
  · rw [show r = ⟨256 + a.val, by omega⟩ from Fin.ext hx0]
    pointwise [k0_pay1]
  · rw [show r = ⟨a.val, by omega⟩ from Fin.ext hx0]
    pointwise [k0_pay1]

variable (m : (ℓ : Loc nD τ sig) → Buf (Elt Ideal) ℓ)

/-- What a grid point leaves in the output block, at row `r`. -/
theorem out_at (c : Dev nD) (t : Fin cfg0.N) (r k : Fin 1024) (x0 : Vec Ideal S1024x1024 .f32) (x1 : Vec Ideal S1x1024 .f32) (x2 x3 : Vec Ideal S1x1024x2816 .bf16) (x4 : Vec Ideal S1x2816x1024 .bf16)
    (h0 : iblk m c 0 t = x0) (h1 : iblk m c 1 t = x1) (h2 : iblk m c 2 t = x2) (h3 : iblk m c 3 t = x3) (h4 : iblk m c 4 t = x4) :
    outsAt0 m c t (ix2 r k)
      = Rows.ffn (fun j => x0 (ix2 r j)) (fun j => x1 (ix2 0 j)) (fun j f => x2 (ix3 0 j f)) (fun j f => x3 (ix3 0 j f)) (fun f k => x4 (ix3 0 f k)) k := by
  unfold outsAt0
  frame_out
  simp (disch := decide) only [View.readCov_fill]
  simp only [h0, h1, h2, h3, h4]
  exact (slabs_at x2 x3 x4 (hid x0 x1) (accs x2 x3 x4 (hid x0 x1) (k0_pay4 (F := Ideal) x0)) r k).trans (ffn_at x0 x1 x2 x3 x4 r k)

end Cert.Kernel3Ideal.FfnValue

end
-- ==== Proof.Ffn0Ref.lean ====
/- The feed-forward reference, read at one row: normalisation, gated branch with its residual. -/
module

public import proofs.«01_k».proof.Proof.Gen.Reference3Ideal.Read
public import proofs.«01_k».proof.Proof.Rows

@[expose] public section
set_option maxRecDepth 16384
noncomputable section
namespace Cert.Reference3Ideal.FfnRef
open Cert.Reference3Ideal Cert.Reference3Ideal.Gen Cert.Reference3Ideal.Read Idealize.ShloMosaic Idealize.ShloMosaic.TcCoe Idealize.SL.Sem

variable (x : FVec Ideal S8x4096x1024 .f32) (g : FVec Ideal S2x1024 .f32) (wg wu : FVec Ideal S2x1024x2816 .f32) (wd : FVec Ideal S2x2816x1024 .f32)

/-- The normalised row the branch starts from. -/
theorem h_at (b : Fin 8) (s : Fin 4096) (k : Fin 1024) :
    val_main_v14 (F := Ideal) x g (ix3 b s k) = Rows.rms (fun j => x (ix3 b s j)) (fun j => g (ix2 0 j)) k := by
  unfold Rows.rms
  pointwise [val_main_v14, val_main_v13, val_main_v12, val_main_v1, val_main_v0, val_main_v11, val_main_v10, val_main_v9, val_main_v8, val_main_v7, val_main_cst_1, val_main_v6, val_main_v5, val_main_cst_0, val_main_v4, val_main_v3, val_main_v2, val_main_cst]

theorem unit_at (b : Fin 8) (s : Fin 4096) (f : Fin 2816) :
    val_main_v24 (F := Ideal) x g wg wu (ix3 b s f)
      = Rows.unit (Rows.rms (fun j => x (ix3 b s j)) (fun j => g (ix2 0 j))) (fun j f => wg (ix3 0 j f)) (fun j f => wu (ix3 0 j f)) f := by
  unfold Rows.unit Rows.lin
  have h := h_at x g b s
  unfold val_main_v24 val_main_v23 val_main_v22 val_main_call0_v5 val_main_call0_v3 val_main_call0_v1 val_main_call0_v0 val_main_v21
  generalize val_main_v14 (F := Ideal) x g = H at h
  simp only [← h]
  pointwise [val_main_call0_v4, val_main_call0_v2, val_main_call0_cst, val_main_call0_cst_0, val_main_v16, val_main_v15, val_main_v18, val_main_v17]
  rfl

theorem res_at (b : Fin 8) (s : Fin 4096) (k : Fin 1024) :
    val_main_v26 (F := Ideal) x g wg wu wd (ix3 b s k)
      = Rows.ffn (fun j => x (ix3 b s j)) (fun j => g (ix2 0 j)) (fun j f => wg (ix3 0 j f)) (fun j f => wu (ix3 0 j f)) (fun f k => wd (ix3 0 f k)) k := by
  unfold Rows.ffn
  have h := unit_at x g wg wu b s
  unfold val_main_v26 val_main_v25
  generalize val_main_v24 (F := Ideal) x g wg wu = U at h
  simp only [← h]
  pointwise [val_main_v20, val_main_v19]

theorem out_at (b : Fin 8) (s : Fin 4096) (r : Fin 32768) (hr : r.val = 4096 * b.val + s.val) (k : Fin 1024) :
    val_main_v27 (F := Ideal) x g wg wu wd (ix2 r k)
      = Rows.ffn (fun j => x (ix3 b s j)) (fun j => g (ix2 0 j)) (fun j f => wg (ix3 0 j f)) (fun j f => wu (ix3 0 j f)) (fun f k => wd (ix3 0 f k)) k := by
  rw [val_main_v27_apply]
  have hi : idx_main_v27 (ix2 r k) = ix3 b s k := by
    funext a
    apply Fin.ext
    match a with
    | ⟨0, _⟩ => show (r.val * 1024 + k.val) / 4194304 = b.val; omega
    | ⟨1, _⟩ => show (r.val * 1024 + k.val) / 1024 % 4096 = s.val; omega
    | ⟨2, _⟩ => show (r.val * 1024 + k.val) % 1024 = k.val; omega
  rw [hi]
  exact res_at x g wg wu wd b s k

end Cert.Reference3Ideal.FfnRef
end
-- ==== Proof.Ffn0Array.lean ====
/- The feed-forward call's result array: every grid point writes its own block of 1024 rows, so the array is the
   reference's result row by row. -/
module

public import proofs.«01_k».proof.Proof.Ffn0Block
public import proofs.«01_k».proof.Proof.Ffn0Ref
public import Idealize.ShloMosaic.Lib.Claim

@[expose] public section

set_option maxRecDepth 16384

noncomputable section

namespace Cert.Kernel3Ideal.FfnValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Every window's block index, at all grid points. -/
theorem idx : ∀ t : Fin cfg0.N, win0_0.index t = ![t.val, 0] ∧ win0_1.index t = ![0, 0] ∧ win0_2.index t = ![0, 0, 0] ∧ win0_3.index t = ![0, 0, 0]
    ∧ win0_4.index t = ![0, 0, 0] ∧ win0_5.index t = ![t.val, 0] :=
  (by decide +kernel : ∀ t : Fin grid0.N, _)

theorem blk0 (c : Dev nD) (t : Fin cfg0.N) (r k : Fin 1024) (b : Fin 8) (s : Fin 4096) (hr : 1024 * t.val + r.val = 4096 * b.val + s.val) :
    (iblk m c 0 t : Vec Ideal S1024x1024 .f32) (ix2 r k) = m ((c : Thread nD τ).loc main_arg0) (ix3 b s k) := by
  blk_simp [iblk, idx t]
  entry_read
  pointwise
  blk_ext [idx t]

theorem blk1 (c : Dev nD) (t : Fin cfg0.N) (k : Fin 1024) :
    (iblk m c 1 t : Vec Ideal S1x1024 .f32) (ix2 0 k) = m ((c : Thread nD τ).loc main_arg1) (ix2 0 k) := by
  blk_simp [iblk, idx t]
  entry_read
  pointwise
  blk_ext [idx t]

theorem blk2 (c : Dev nD) (t : Fin cfg0.N) (k : Fin 1024) (f : Fin 2816) :
    (iblk m c 2 t : Vec Ideal S1x1024x2816 .bf16) (ix3 0 k f) = m ((c : Thread nD τ).loc main_arg2) (ix3 0 k f) := by
  blk_simp [iblk, idx t]
  entry_read
  pointwise
  blk_ext [idx t]

theorem blk3 (c : Dev nD) (t : Fin cfg0.N) (k : Fin 1024) (f : Fin 2816) :
    (iblk m c 3 t : Vec Ideal S1x1024x2816 .bf16) (ix3 0 k f) = m ((c : Thread nD τ).loc main_arg3) (ix3 0 k f) := by
  blk_simp [iblk, idx t]
  entry_read
  pointwise
  blk_ext [idx t]

theorem blk4 (c : Dev nD) (t : Fin cfg0.N) (f : Fin 2816) (k : Fin 1024) :
    (iblk m c 4 t : Vec Ideal S1x2816x1024 .bf16) (ix3 0 f k) = m ((c : Thread nD τ).loc main_arg4) (ix3 0 f k) := by
  blk_simp [iblk, idx t]
  entry_read
  pointwise
  blk_ext [idx t]

/-- What a grid point leaves in row `r` of its block is row `1024 t + r` of the reference's result. -/
theorem point (c : Dev nD) (t : Fin cfg0.N) (r k : Fin 1024) (q : Fin 32768) (hq : q.val = 1024 * t.val + r.val) :
    outsAt0 m c t (ix2 r k) = Cert.Reference3Ideal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 q k) := by
  have hb : q.val / 4096 < 8 := by omega
  have hs : q.val % 4096 < 4096 := by omega
  have hqe : q.val = 4096 * (q.val / 4096) + q.val % 4096 := by omega
  refine (out_at m c t r k _ _ _ _ _ rfl rfl rfl rfl rfl).trans ?_
  refine Eq.trans ?_ (Cert.Reference3Ideal.FfnRef.out_at _ _ _ _ _ ⟨q.val / 4096, hb⟩ ⟨q.val % 4096, hs⟩ q hqe k).symm
  have e0 := fun j => blk0 m c t r j ⟨q.val / 4096, hb⟩ ⟨q.val % 4096, hs⟩ (by show _ = 4096 * (q.val / 4096) + q.val % 4096; omega)
  have e1 := blk1 m c t
  have e2 := blk2 m c t
  have e3 := blk3 m c t
  have e4 := blk4 m c t
  simp only [e0, e1, e2, e3, e4]

/-- The result array after the run is the reference's result. -/
theorem final (c : Dev nD) : (dats m 0 c).arrAt 5 (cfgs 0).N
    = Cert.Reference3Ideal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, k, rfl⟩ : ∃ (r k : Fin 1024), y = ix2 r k := ⟨y 0, y 1, funext fun i => by fin_cases i <;> rfl⟩
  have ht : t.val < 32 := lt_of_lt_of_eq t.isLt (by decide +kernel : grid0.N = 32)
  refine (point m c t r k ⟨1024 * t.val + r.val, by omega⟩ rfl).trans ?_
  blk_ext [idx t]

end Cert.Kernel3Ideal.FfnValue

end
-- ==== Proof.Ffn0Claim.lean ====
/- The value claim of layer 0's feed-forward call. -/
module

public import proofs.«01_k».proof.Defs
public import proofs.«01_k».proof.Proof.Ffn0Array
public import Idealize.ShloMosaic.Lib.Claim

@[expose] public section

set_option maxRecDepth 16384

noncomputable section

namespace Cert.Proof

open Idealize.ShloMosaic Idealize.SL.Sem

/-- The feed-forward kernel of layer 0 and its reference leave the same array, whatever the arguments. -/
theorem ffn0_algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    obtain ⟨h0, h1, h2, h3, h4⟩ := hagree c
    rw [Cert.Reference3Ideal.Read.val_main_v27_eq]
    exact (Cert.Kernel3Ideal.FfnValue.final m c).symm

end Cert.Proof

end
-- ==== Proof.Mixer.lean ====
/- One row of the even layer's mixer, over the extended reals: the Gaussian error linear unit, the layer normalisation,
   the spatial gate over a chunk of 128 rows, the three-tap convolution, and the output projection with its residual. -/
module

public import proofs.«01_k».proof.Proof.Rows

@[expose] public section

noncomputable section

namespace Cert.Rows

open Idealize.ShloMosaic

/-- The Gaussian error linear unit, in the form `a/2 · (1 + erf (a · c))`. -/
def gelu (a : EReal) : EReal :=
  Ideal.ofBits FTy.f32 1056964608#32 * a * (Ideal.ofBits FTy.f32 1065353216#32 + Ideal.erf (a * Ideal.ofBits FTy.f32 1060439283#32))

/-- The mean of 512 entries. -/
def mean (v : Fin 512 → EReal) : EReal := Ideal.div (∑ a, v a) (Ideal.ofBits FTy.f32 1140850688#32)

/-- Layer normalisation of 512 entries with scale `lg` and shift `lb`. -/
def lnorm (v lg lb : Fin 512 → EReal) (a : Fin 512) : EReal :=
  (v a - mean v) * Ideal.rsqrt (mean (fun e => (v e - mean v) * (v e - mean v)) + Ideal.ofBits FTy.f32 897988541#32) * lg a + lb a

/-- The gate's normalised half of the projection of a row `h`. -/
def gated (h : Fin 1024 → EReal) (w : Fin 1024 → Fin 2560 → EReal) (lg lb : Fin 512 → EReal) : Fin 512 → EReal :=
  lnorm (fun a => gelu (lin h w ⟨512 + a.val, by omega⟩)) lg lb

/-- The spatial gate: entry `a` of a row `h`, mixed over the rows `C` of its chunk by the row `sp` of the spatial weights. -/
def spatial (h : Fin 1024 → EReal) (C : Fin 128 → Fin 1024 → EReal) (w : Fin 1024 → Fin 2560 → EReal) (lg lb : Fin 512 → EReal)
    (sp : Fin 4 → Fin 128 → EReal) (b : Fin 4 → EReal) (a : Fin 512) : EReal :=
  gelu (lin h w ⟨a.val, by omega⟩)
    * ((∑ j, sp ⟨a.val / 128, by omega⟩ j * gated (C j) w lg lb a) + b ⟨a.val / 128, by omega⟩)

/-- The product the convolution runs over. -/
def prod (h : Fin 1024 → EReal) (w : Fin 1024 → Fin 2560 → EReal) (a : Fin 512) : EReal :=
  lin h w ⟨1536 + a.val, by omega⟩ * lin h w ⟨2048 + a.val, by omega⟩

/-- The short convolution's half: entry `a` of a row `h` whose neighbours' products are `zp` and `zn`. -/
def short (h : Fin 1024 → EReal) (zp zn : Fin 512 → EReal) (w : Fin 1024 → Fin 2560 → EReal) (cw : Fin 3 → Fin 512 → EReal) (a : Fin 512) : EReal :=
  lin h w ⟨1024 + a.val, by omega⟩ * (zp a * cw 0 a + prod h w a * cw 1 a + zn a * cw 2 a)

/-- The two halves side by side. -/
def both (p q : Fin 512 → EReal) (k : Fin 1024) : EReal := if hk : k.val < 512 then p ⟨k.val, hk⟩ else q ⟨k.val - 512, by omega⟩

/-- The product row of a row of zeros is zero. -/
theorem prod_zero (h : Fin 1024 → EReal) (h0 : ∀ k, h k = 0) (w : Fin 1024 → Fin 2560 → EReal) (a : Fin 512) : prod h w a = 0 := by
  unfold prod lin
  simp only [h0, zero_mul, Finset.sum_const_zero]

/-- A sequence's mixed row `s`: the residual and the projection of the two halves. The rows next to the ends count as zero. -/
def mixer (X : Fin 4096 → Fin 1024 → EReal) (g : Fin 1024 → EReal) (w : Fin 1024 → Fin 2560 → EReal) (lg lb : Fin 512 → EReal)
    (sp : Fin 4 → Fin 128 → Fin 128 → EReal) (b : Fin 4 → Fin 128 → EReal) (cw : Fin 3 → Fin 512 → EReal) (wo : Fin 1024 → Fin 1024 → EReal)
    (s : Fin 4096) (k : Fin 1024) : EReal :=
  X s k + ∑ c, both
    (spatial (rms (X s) g) (fun j => rms (X ⟨128 * (s.val / 128) + j.val, by omega⟩) g) w lg lb
      (fun p j => sp p ⟨s.val % 128, by omega⟩ j) (fun p => b p ⟨s.val % 128, by omega⟩))
    (short (rms (X s) g)
      (fun a => if hs : s.val = 0 then 0 else prod (rms (X ⟨s.val - 1, by omega⟩) g) w a)
      (fun a => if hs : s.val = 4095 then 0 else prod (rms (X ⟨s.val + 1, by omega⟩) g) w a) w cw) c * wo c k

end Cert.Rows

end
-- ==== Proof.MixBlock.lean ====
/- The even layer's call, one grid point: what the body leaves in its output block, row by row, as a function of the
   normalised rows it keeps in scratch. -/
module

public import proofs.«01_k».proof.Proof.Gen.KernelIdeal.Frame
public import proofs.«01_k».proof.Proof.Mixer
public import Idealize.ShloMosaic.Lib.Pipeline.ValueKit
public import Idealize.ShloMosaic.Lib.Pipeline.ReadBack

@[expose] public section

set_option maxRecDepth 16384

noncomputable section

namespace Cert.KernelIdeal.MixValue

open Cert.KernelIdeal Cert.KernelIdeal.Gen Idealize.ShloMosaic Idealize.ShloMosaic.TcCoe Idealize.SL.Sem
open Idealize.ShloMosaic.Pipeline (Dat)

/-- One stored tile that agrees with `Y`, over stores that leave `Y` off the tile. -/
theorem canon_tile {n0 n1 o0 o1 s0 s1 : Nat} {e : EltTy} (inb : ∀ a, (![o0, o1] : Fin 2 → Nat) a + (![s0, s1] : Fin 2 → Nat) a ≤ (⟨2, ![n0, n1]⟩ : Shape).size a)
    (Q : (⟨2, ![s0, s1]⟩ : Shape).Idx → Elt Ideal e) (L : List (View.Piece (Elt Ideal) ⟨2, ![n0, n1]⟩ e)) (Y : Fin n0 → Fin n1 → Elt Ideal e)
    (h0 : o0 + s0 ≤ n0) (h1 : o1 + s1 ≤ n1)
    (hQ : ∀ (i : Fin s0) (a : Fin s1), Q (ix2 i a) = Y ⟨o0 + i.val, by omega⟩ ⟨o1 + a.val, by omega⟩) (r : Fin n0) (k : Fin n1)
    (hL : ¬(o0 ≤ r.val ∧ r.val < o0 + s0 ∧ o1 ≤ k.val ∧ k.val < o1 + s1) → View.canon L (ix2 r k) = Y r k) :
    View.canon (⟨Rect.unit (s := ⟨2, ![n0, n1]⟩) ![o0, o1] ![s0, s1] inb, Q⟩ :: L) (ix2 r k) = Y r k := by
  by_cases hm : o0 ≤ r.val ∧ r.val < o0 + s0 ∧ o1 ≤ k.val ∧ k.val < o1 + s1
  · have e : (ix2 r k : (⟨2, ![n0, n1]⟩ : Shape).Idx) = (Rect.unit (s := ⟨2, ![n0, n1]⟩) ![o0, o1] ![s0, s1] inb).emb (ix2 (⟨r.val - o0, by omega⟩ : Fin s0) (⟨k.val - o1, by omega⟩ : Fin s1)) := by
      funext a
      apply Fin.ext
      match a with
      | ⟨0, _⟩ => show r.val = o0 + 1 * (r.val - o0); omega
      | ⟨1, _⟩ => show k.val = o1 + 1 * (k.val - o1); omega
    rw [e, View.canon_cons_emb]
    refine (hQ _ _).trans (congrArg₂ Y (Fin.ext ?_) (Fin.ext ?_))
    · show o0 + (r.val - o0) = r.val; omega
    · show o1 + (k.val - o1) = k.val; omega
  · rw [View.canon_cons_of_not_mem _ _ (fun h => hm ?_)]
    · exact hL hm
    · have h := (Rect.mem_set_unit (inb := inb)).mp h
      exact ⟨(h 0).1, (h 0).2, (h 1).1, (h 1).2⟩

variable (H : Vec Ideal S1056x1024 .bf16) (x4 : Vec Ideal S1024x2560 .bf16) (x5 x6 : Vec Ideal S1x512 .f32) (x7 : Vec Ideal S4x128x128 .bf16)
  (x8 : Vec Ideal S4x128x1 .f32) (x9 : Vec Ideal S3x512 .f32) (x10 : Vec Ideal S1024x1024 .bf16)

/-- The error function over the extended reals. -/
theorem erf_eq (v : EReal) : FloatOps.erf (F := Ideal) (φ := .f32) v = Ideal.erf v := rfl

/-- The normalised row kept at row `q` of the scratch. -/
abbrev row (q : Fin 1056) : Fin 1024 → EReal := fun j => H (ix2 q j)

/-- The projection's weights. -/
abbrev win (x4 : Vec Ideal S1024x2560 .bf16) : Fin 1024 → Fin 2560 → EReal := fun j f => x4 (ix2 j f)

/-- The two halves of row `r`, before the output projection. -/
def mid (r k : Fin 1024) : EReal :=
  Rows.both
    (Rows.spatial (row H ⟨16 + r.val, by omega⟩) (fun j => row H ⟨16 + (128 * (r.val / 128) + j.val), by omega⟩) (win x4) (fun a => x5 (ix2 0 a)) (fun a => x6 (ix2 0 a))
      (fun p j => x7 (ix3 p ⟨r.val % 128, by omega⟩ j)) (fun p => x8 (ix3 p ⟨r.val % 128, by omega⟩ 0)))
    (Rows.short (row H ⟨16 + r.val, by omega⟩) (Rows.prod (row H ⟨15 + r.val, by omega⟩) (win x4)) (Rows.prod (row H ⟨17 + r.val, by omega⟩) (win x4)) (win x4)
      (fun t a => x9 (ix2 t a))) k

/-- The convolution's sum, as the body keeps it in scratch. -/
def conv : FVec Ideal S1024x512 .f32 :=
  k0_pay14 (F := Ideal) (View.ld H (Rect.unit ![0, 0] ![1056, 1024] inb_S1056x1024_S1056x1024_0_0)) (View.ld x4 (Rect.unit ![0, 1536] ![1024, 1024] inb_S1024x2560_S1024x1024_0_1536)) x9

/-- The products the convolution runs over, row by row of the scratch. -/
def prods (h : Vec Ideal S1056x1024 .bf16) (w : Vec Ideal S1024x1024 .bf16) : FVec Ideal S1056x512 .f32 :=
  have d : FVec Ideal S1056x1024 .f32 := matmul (F := Ideal) (φ₁ := .bf16) (φ₂ := .bf16) dot_S1056x1024_S1024x1024_S1056x1024_1_0_0_1_n_n none h
    (shapeCast S1024x1024 w shapeCasts_S1024x1024_S1024x1024) (constant (F := Ideal) S1056x1024 .f32 0x00000000#32)
  mulf (F := Ideal) (φ := .f32) (extractStridedSlice S1056x512 ![0, 0] d slices_S1056x1024_o0_0_S1056x512)
    (extractStridedSlice S1056x512 ![0, 512] d slices_S1056x1024_o0_512_S1056x512)

/-- Three shifted copies of the products, weighted. -/
def taps (z : FVec Ideal S1056x512 .f32) (c : Vec Ideal S3x512 .f32) : FVec Ideal S1024x512 .f32 :=
  shapeCast S1024x512
    (addf (F := Ideal) (φ := .f32)
      (addf (F := Ideal) (φ := .f32)
        (mulf (F := Ideal) (φ := .f32) (extractStridedSlice S1024x512 ![16, 0] (dynamicRotate 0 1#32 none z rotates_S1056x512_d0) slices_S1056x512_o16_0_S1024x512)
          (broadcastTo S1024x512 (extractStridedSlice S1x512 ![0, 0] (shapeCast S3x512 c shapeCasts_S3x512_S3x512) slices_S3x512_o0_0_S1x512) broadcasts_S1x512_S1024x512))
        (mulf (F := Ideal) (φ := .f32) (extractStridedSlice S1024x512 ![16, 0] z slices_S1056x512_o16_0_S1024x512)
          (broadcastTo S1024x512 (extractStridedSlice S1x512 ![1, 0] (shapeCast S3x512 c shapeCasts_S3x512_S3x512) slices_S3x512_o1_0_S1x512) broadcasts_S1x512_S1024x512)))
      (mulf (F := Ideal) (φ := .f32) (extractStridedSlice S1024x512 ![16, 0] (dynamicRotate 0 1055#32 none z rotates_S1056x512_d0) slices_S1056x512_o16_0_S1024x512)
        (broadcastTo S1024x512 (extractStridedSlice S1x512 ![2, 0] (shapeCast S3x512 c shapeCasts_S3x512_S3x512) slices_S3x512_o2_0_S1x512) broadcasts_S1x512_S1024x512)))
    shapeCasts_S1024x512_S1024x512

theorem conv_eq : conv H x4 x9 = taps (prods (View.ld H (Rect.unit ![0, 0] ![1056, 1024] inb_S1056x1024_S1056x1024_0_0))
    (View.ld x4 (Rect.unit ![0, 1536] ![1024, 1024] inb_S1024x2560_S1024x1024_0_1536))) x9 := rfl

theorem prods_at (q : Fin 1056) (a : Fin 512) :
    prods (View.ld H (Rect.unit ![0, 0] ![1056, 1024] inb_S1056x1024_S1056x1024_0_0))
      (View.ld x4 (Rect.unit ![0, 1536] ![1024, 1024] inb_S1024x2560_S1024x1024_0_1536)) (ix2 q a) = Rows.prod (row H q) (win x4) a := by
  unfold Rows.prod Rows.lin
  have e : 1536 + (512 + a.val) = 2048 + a.val := by omega
  pointwise [prods]
  simp only [e]

theorem taps_at (z : FVec Ideal S1056x512 .f32) (c : Vec Ideal S3x512 .f32) (r : Fin 1024) (a : Fin 512) :
    taps z c (ix2 r a) = z (ix2 ⟨15 + r.val, by omega⟩ a) * c (ix2 0 a) + z (ix2 ⟨16 + r.val, by omega⟩ a) * c (ix2 1 a)
      + z (ix2 ⟨17 + r.val, by omega⟩ a) * c (ix2 2 a) := by
  have e1 : (16 + r.val + 1056 - 1) % 1056 = 15 + r.val := by omega
  have e2 : (16 + r.val + 1056 - 1055) % 1056 = 17 + r.val := by omega
  pointwise [taps]
  simp only [e1, e2]

theorem conv_at (r : Fin 1024) (a : Fin 512) :
    conv H x4 x9 (ix2 r a) = Rows.prod (row H ⟨15 + r.val, by omega⟩) (win x4) a * x9 (ix2 0 a)
      + Rows.prod (row H ⟨16 + r.val, by omega⟩) (win x4) a * x9 (ix2 1 a) + Rows.prod (row H ⟨17 + r.val, by omega⟩) (win x4) a * x9 (ix2 2 a) := by
  rw [conv_eq, taps_at, prods_at, prods_at, prods_at]

/-- The projection of the first and of the second 512 rows. -/
theorem proj_at (r : Fin 512) (f : Fin 1536) :
    k0_pay15 (F := Ideal) (View.ld H (Rect.unit ![16, 0] ![512, 1024] inb_S1056x1024_S512x1024_16_0)) (View.ld x4 (Rect.unit ![0, 0] ![1024, 1536] inb_S1024x2560_S1024x1536_0_0)) (ix2 r f)
      = Rows.lin (row H ⟨16 + r.val, by omega⟩) (win x4) ⟨f.val, by omega⟩ := by
  unfold Rows.lin
  pointwise [k0_pay15]

theorem proj2_at (r : Fin 512) (f : Fin 1536) :
    k0_pay16 (F := Ideal) (View.ld H (Rect.unit ![528, 0] ![512, 1024] inb_S1056x1024_S512x1024_528_0)) (View.ld x4 (Rect.unit ![0, 0] ![1024, 1536] inb_S1024x2560_S1024x1536_0_0)) (ix2 r f)
      = Rows.lin (row H ⟨528 + r.val, by omega⟩) (win x4) ⟨f.val, by omega⟩ := by
  unfold Rows.lin
  pointwise [k0_pay16]

/-- The gate's plain half over 512 rows. -/
theorem plain_at (r a : Fin 512) :
    k0_pay17 (F := Ideal) (View.ld H (Rect.unit ![16, 0] ![512, 1024] inb_S1056x1024_S512x1024_16_0)) (View.ld x4 (Rect.unit ![0, 0] ![1024, 1536] inb_S1024x2560_S1024x1536_0_0)) (ix2 r a)
      = Rows.gelu (Rows.lin (row H ⟨16 + r.val, by omega⟩) (win x4) ⟨a.val, by omega⟩) := by
  unfold Rows.gelu
  rw [← proj_at H x4 r ⟨a.val, by omega⟩]
  unfold k0_pay17
  generalize k0_pay15 (F := Ideal) (View.ld H (Rect.unit ![16, 0] ![512, 1024] inb_S1056x1024_S512x1024_16_0)) (View.ld x4 (Rect.unit ![0, 0] ![1024, 1536] inb_S1024x2560_S1024x1536_0_0)) = P
  pointwise
  simp only [erf_eq]

theorem plain2_at (P : FVec Ideal S512x1536 .f32) (r a : Fin 512) : k0_pay46 (F := Ideal) P (ix2 r a) = Rows.gelu (P (ix2 r ⟨a.val, by omega⟩)) := by
  unfold Rows.gelu
  pointwise [k0_pay46]
  simp only [erf_eq]

/-- The gate's normalised half over 512 rows. -/
theorem norm_at (r a : Fin 512) :
    k0_pay20 (F := Ideal)
      (k0_pay18 (F := Ideal) (View.ld H (Rect.unit ![16, 0] ![512, 1024] inb_S1056x1024_S512x1024_16_0)) (View.ld x4 (Rect.unit ![0, 0] ![1024, 1536] inb_S1024x2560_S1024x1536_0_0)))
      (k0_pay19 (F := Ideal) (View.ld H (Rect.unit ![16, 0] ![512, 1024] inb_S1056x1024_S512x1024_16_0)) (View.ld x4 (Rect.unit ![0, 0] ![1024, 1536] inb_S1024x2560_S1024x1536_0_0))) x5 x6 (ix2 r a)
      = Rows.gated (row H ⟨16 + r.val, by omega⟩) (win x4) (fun a => x5 (ix2 0 a)) (fun a => x6 (ix2 0 a)) a := by
  unfold Rows.gated
  have h := fun e : Fin 512 => proj_at H x4 r ⟨512 + e.val, by omega⟩
  simp only at h
  unfold k0_pay19 k0_pay18
  generalize k0_pay15 (F := Ideal) (View.ld H (Rect.unit ![16, 0] ![512, 1024] inb_S1056x1024_S512x1024_16_0)) (View.ld x4 (Rect.unit ![0, 0] ![1024, 1536] inb_S1024x2560_S1024x1536_0_0)) = P at h ⊢
  simp only [← h]
  unfold Rows.lnorm Rows.mean Rows.gelu
  pointwise [k0_pay20]
  simp only [erf_eq]

theorem norm2_at (P : FVec Ideal S512x1536 .f32) (r a : Fin 512) :
    k0_pay50 (F := Ideal) (k0_pay48 (F := Ideal) P) (k0_pay49 (F := Ideal) P) x5 x6 (ix2 r a)
      = Rows.lnorm (fun e => Rows.gelu (P (ix2 r ⟨512 + e.val, by omega⟩))) (fun a => x5 (ix2 0 a)) (fun a => x6 (ix2 0 a)) a := by
  unfold Rows.lnorm Rows.mean Rows.gelu
  pointwise [k0_pay50, k0_pay48, k0_pay49, k0_pay47]
  simp only [erf_eq]

/-- One tile of the spatial gate: 128 rows of one chunk by one group of 128 columns. -/
theorem tile_val (U N : FVec Ideal S512x512 .f32) (B q g o0 o1 : Nat) (hB : B + 512 ≤ 1024) (hm : B % 128 = 0) (hq : q < 4) (hg : g < 4)
    (ho0 : o0 = B + 128 * q) (ho1 : o1 = 128 * g)
    (hU : ∀ r a : Fin 512, U (ix2 r a) = Rows.gelu (Rows.lin (row H ⟨16 + (B + r.val), by omega⟩) (win x4) ⟨a.val, by omega⟩))
    (hN : ∀ r a : Fin 512, N (ix2 r a) = Rows.gated (row H ⟨16 + (B + r.val), by omega⟩) (win x4) (fun a => x5 (ix2 0 a)) (fun a => x6 (ix2 0 a)) a)
    (i a : Fin 128) :
    U (ix2 ⟨128 * q + i.val, by omega⟩ ⟨128 * g + a.val, by omega⟩)
        * ((∑ j : Fin 128, x7 (ix3 ⟨g, by omega⟩ i j) * N (ix2 ⟨128 * q + j.val, by omega⟩ ⟨128 * g + a.val, by omega⟩)) + x8 (ix3 ⟨g, by omega⟩ i 0))
      = mid H x4 x5 x6 x7 x8 x9 ⟨o0 + i.val, by omega⟩ ⟨o1 + a.val, by omega⟩ := by
  subst ho0 ho1
  have ea : (128 * g + a.val) / 128 = g := by omega
  have eb : (B + 128 * q + i.val) % 128 = i.val := by omega
  have ec : ∀ j : Nat, 16 + (128 * ((B + 128 * q + i.val) / 128) + j) = 16 + (B + (128 * q + j)) := fun j => by omega
  have ed : 16 + (B + (128 * q + i.val)) = 16 + (B + 128 * q + i.val) := by omega
  unfold mid Rows.both
  rw [dif_pos (show (128 * g + a.val) < 512 by omega)]
  unfold Rows.spatial
  simp only [hU, hN, ea, eb, ec, ed]

/-- A tile of the convolution branch. -/
theorem short_val (P : FVec Ideal S512x1536 .f32) (Z : FVec Ideal S512x512 .f32) (B : Nat) (hB : B + 512 ≤ 1024)
    (hP : ∀ (r : Fin 512) (f : Fin 1536), P (ix2 r f) = Rows.lin (row H ⟨16 + (B + r.val), by omega⟩) (win x4) ⟨f.val, by omega⟩)
    (hZ : ∀ r a : Fin 512, Z (ix2 r a) = conv H x4 x9 (ix2 ⟨B + r.val, by omega⟩ a)) (i a : Fin 512) :
    P (ix2 i ⟨1024 + a.val, by omega⟩) * Z (ix2 i a) = mid H x4 x5 x6 x7 x8 x9 ⟨B + i.val, by omega⟩ ⟨512 + a.val, by omega⟩ := by
  have ea : 512 + a.val - 512 = a.val := by omega
  unfold mid Rows.both
  rw [dif_neg (show ¬(512 + a.val) < 512 by omega)]
  unfold Rows.short
  simp only [hP, hZ, conv_at, ea]

set_option maxHeartbeats 1000000

theorem tile1_33 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay43 (F := Ideal) U (k0_pay39 (F := Ideal) (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))) (ix2 i a) = mid H x4 x5 x6 x7 x8 x9 ⟨384 + i.val, by omega⟩ ⟨384 + a.val, by omega⟩ := by
  rw [← tile_val H x4 x5 x6 x7 x8 x9 U _ 0 3 3 384 384 (by omega) (by omega) (by omega) (by omega) rfl rfl hU hN i a]
  generalize k0_pay20 (F := Ideal) A R x5 x6 = N
  pointwise [k0_pay43, k0_pay39]
  simp only [show ¬(384 + a.val < 128) by omega, show ¬(384 + a.val - 128 < 128) by omega, show ¬(384 + a.val - 128 - 128 < 128) by omega, show 384 + a.val - 128 - 128 - 128 = a.val by omega, dite_false]

theorem tile1_23 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay42 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)) (ix2 i a) = mid H x4 x5 x6 x7 x8 x9 ⟨256 + i.val, by omega⟩ ⟨384 + a.val, by omega⟩ := by
  rw [← tile_val H x4 x5 x6 x7 x8 x9 U _ 0 2 3 256 384 (by omega) (by omega) (by omega) (by omega) rfl rfl hU hN i a]
  generalize k0_pay20 (F := Ideal) A R x5 x6 = N
  pointwise [k0_pay42, k0_pay39]
  simp only [show ¬(256 + a.val < 128) by omega, show ¬(256 + a.val - 128 < 128) by omega, show 256 + a.val - 128 - 128 = a.val by omega, a.isLt, dite_false, dite_true]

theorem tile1_13 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay41 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)) (ix2 i a) = mid H x4 x5 x6 x7 x8 x9 ⟨128 + i.val, by omega⟩ ⟨384 + a.val, by omega⟩ := by
  rw [← tile_val H x4 x5 x6 x7 x8 x9 U _ 0 1 3 128 384 (by omega) (by omega) (by omega) (by omega) rfl rfl hU hN i a]
  generalize k0_pay20 (F := Ideal) A R x5 x6 = N
  pointwise [k0_pay41, k0_pay39]

theorem tile1_03 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay40 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)) (ix2 i a) = mid H x4 x5 x6 x7 x8 x9 ⟨0 + i.val, by omega⟩ ⟨384 + a.val, by omega⟩ := by
  rw [← tile_val H x4 x5 x6 x7 x8 x9 U _ 0 0 3 0 384 (by omega) (by omega) (by omega) (by omega) rfl rfl hU hN i a]
  generalize k0_pay20 (F := Ideal) A R x5 x6 = N
  pointwise [k0_pay40, k0_pay39]

theorem tile1_32 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay38 (F := Ideal) U (k0_pay33 (F := Ideal) (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨384 + i.val, by omega⟩ ⟨256 + a.val, by omega⟩ := by
  rw [← tile_val H x4 x5 x6 x7 x8 x9 U _ 0 3 2 384 256 (by omega) (by omega) (by omega) (by omega) rfl rfl hU hN i a]
  generalize k0_pay20 (F := Ideal) A R x5 x6 = N
  pointwise [k0_pay38, k0_pay33]
  simp only [show ¬(384 + a.val < 128) by omega, show ¬(384 + a.val - 128 < 128) by omega, show ¬(384 + a.val - 128 - 128 < 128) by omega, show 384 + a.val - 128 - 128 - 128 = a.val by omega, dite_false]

theorem tile1_22 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay37 (F := Ideal) (k0_pay36 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨256 + i.val, by omega⟩ ⟨256 + a.val, by omega⟩ := by
  rw [← tile_val H x4 x5 x6 x7 x8 x9 U _ 0 2 2 256 256 (by omega) (by omega) (by omega) (by omega) rfl rfl hU hN i a]
  generalize k0_pay20 (F := Ideal) A R x5 x6 = N
  pointwise [k0_pay37, k0_pay36, k0_pay33]
  simp only [show ¬(256 + a.val < 128) by omega, show ¬(256 + a.val - 128 < 128) by omega, show 256 + a.val - 128 - 128 = a.val by omega, a.isLt, dite_false, dite_true]

theorem tile1_12 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay35 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)) (ix2 i a) = mid H x4 x5 x6 x7 x8 x9 ⟨128 + i.val, by omega⟩ ⟨256 + a.val, by omega⟩ := by
  rw [← tile_val H x4 x5 x6 x7 x8 x9 U _ 0 1 2 128 256 (by omega) (by omega) (by omega) (by omega) rfl rfl hU hN i a]
  generalize k0_pay20 (F := Ideal) A R x5 x6 = N
  pointwise [k0_pay35, k0_pay33]

theorem tile1_02 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay34 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)) (ix2 i a) = mid H x4 x5 x6 x7 x8 x9 ⟨0 + i.val, by omega⟩ ⟨256 + a.val, by omega⟩ := by
  rw [← tile_val H x4 x5 x6 x7 x8 x9 U _ 0 0 2 0 256 (by omega) (by omega) (by omega) (by omega) rfl rfl hU hN i a]
  generalize k0_pay20 (F := Ideal) A R x5 x6 = N
  pointwise [k0_pay34, k0_pay33]

theorem tile1_31 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay32 (F := Ideal) U (k0_pay27 (F := Ideal) (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨384 + i.val, by omega⟩ ⟨128 + a.val, by omega⟩ := by
  rw [← tile_val H x4 x5 x6 x7 x8 x9 U _ 0 3 1 384 128 (by omega) (by omega) (by omega) (by omega) rfl rfl hU hN i a]
  generalize k0_pay20 (F := Ideal) A R x5 x6 = N
  pointwise [k0_pay32, k0_pay27]
  simp only [show ¬(384 + a.val < 128) by omega, show ¬(384 + a.val - 128 < 128) by omega, show ¬(384 + a.val - 128 - 128 < 128) by omega, show 384 + a.val - 128 - 128 - 128 = a.val by omega, dite_false]

theorem tile1_21 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay31 (F := Ideal) (k0_pay30 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨256 + i.val, by omega⟩ ⟨128 + a.val, by omega⟩ := by
  rw [← tile_val H x4 x5 x6 x7 x8 x9 U _ 0 2 1 256 128 (by omega) (by omega) (by omega) (by omega) rfl rfl hU hN i a]
  generalize k0_pay20 (F := Ideal) A R x5 x6 = N
  pointwise [k0_pay31, k0_pay30, k0_pay27]
  simp only [show ¬(256 + a.val < 128) by omega, show ¬(256 + a.val - 128 < 128) by omega, show 256 + a.val - 128 - 128 = a.val by omega, a.isLt, dite_false, dite_true]

theorem tile1_11 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay29 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)) (ix2 i a) = mid H x4 x5 x6 x7 x8 x9 ⟨128 + i.val, by omega⟩ ⟨128 + a.val, by omega⟩ := by
  rw [← tile_val H x4 x5 x6 x7 x8 x9 U _ 0 1 1 128 128 (by omega) (by omega) (by omega) (by omega) rfl rfl hU hN i a]
  generalize k0_pay20 (F := Ideal) A R x5 x6 = N
  pointwise [k0_pay29, k0_pay27]

theorem tile1_01 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay28 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)) (ix2 i a) = mid H x4 x5 x6 x7 x8 x9 ⟨0 + i.val, by omega⟩ ⟨128 + a.val, by omega⟩ := by
  rw [← tile_val H x4 x5 x6 x7 x8 x9 U _ 0 0 1 0 128 (by omega) (by omega) (by omega) (by omega) rfl rfl hU hN i a]
  generalize k0_pay20 (F := Ideal) A R x5 x6 = N
  pointwise [k0_pay28, k0_pay27]

theorem tile1_30 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay26 (F := Ideal) U (k0_pay21 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨384 + i.val, by omega⟩ ⟨0 + a.val, by omega⟩ := by
  rw [← tile_val H x4 x5 x6 x7 x8 x9 U _ 0 3 0 384 0 (by omega) (by omega) (by omega) (by omega) rfl rfl hU hN i a]
  unfold k0_pay26 k0_pay21
  generalize k0_pay20 (F := Ideal) A R x5 x6 = N
  pointwise
  simp only [show ¬(384 + a.val < 128) by omega, show ¬(384 + a.val - 128 < 128) by omega, show ¬(384 + a.val - 128 - 128 < 128) by omega, show 384 + a.val - 128 - 128 - 128 = a.val by omega, dite_false]

theorem tile1_20 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay25 (F := Ideal) (k0_pay24 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨256 + i.val, by omega⟩ ⟨0 + a.val, by omega⟩ := by
  rw [← tile_val H x4 x5 x6 x7 x8 x9 U _ 0 2 0 256 0 (by omega) (by omega) (by omega) (by omega) rfl rfl hU hN i a]
  unfold k0_pay25 k0_pay24 k0_pay21
  generalize k0_pay20 (F := Ideal) A R x5 x6 = N
  pointwise
  simp only [show ¬(256 + a.val < 128) by omega, show ¬(256 + a.val - 128 < 128) by omega, show 256 + a.val - 128 - 128 = a.val by omega, a.isLt, dite_false, dite_true]

theorem tile1_10 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay23 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)) (ix2 i a) = mid H x4 x5 x6 x7 x8 x9 ⟨128 + i.val, by omega⟩ ⟨0 + a.val, by omega⟩ := by
  rw [← tile_val H x4 x5 x6 x7 x8 x9 U _ 0 1 0 128 0 (by omega) (by omega) (by omega) (by omega) rfl rfl hU hN i a]
  unfold k0_pay23 k0_pay21
  generalize k0_pay20 (F := Ideal) A R x5 x6 = N
  pointwise

theorem tile1_00 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a) (i a : Fin 128) :
    k0_pay22 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)) (ix2 i a) = mid H x4 x5 x6 x7 x8 x9 ⟨0 + i.val, by omega⟩ ⟨0 + a.val, by omega⟩ := by
  rw [← tile_val H x4 x5 x6 x7 x8 x9 U _ 0 0 0 0 0 (by omega) (by omega) (by omega) (by omega) rfl rfl hU hN i a]
  unfold k0_pay22 k0_pay21
  generalize k0_pay20 (F := Ideal) A R x5 x6 = N
  pointwise

/-- The rows 0 to 511 of the two halves, whatever was stored before them. -/
theorem half1 (U : FVec Ideal S512x512 .f32) (A : FVec Ideal S512x512 .f32) (R : FVec Ideal S512x1 .f32)
    (hU : ∀ r a : Fin 512, U (ix2 r a) = Rows.gelu (Rows.lin (row H ⟨16 + (0 + r.val), by omega⟩) (win x4) ⟨a.val, by omega⟩))
    (hN : ∀ r a : Fin 512, k0_pay20 (F := Ideal) A R x5 x6 (ix2 r a) = Rows.gated (row H ⟨16 + (0 + r.val), by omega⟩) (win x4) (fun a => x5 (ix2 0 a)) (fun a => x6 (ix2 0 a)) a)
    (P : FVec Ideal S512x1536 .f32) (Z : FVec Ideal S512x512 .f32)
    (hP : ∀ (r : Fin 512) (f : Fin 1536), P (ix2 r f) = Rows.lin (row H ⟨16 + (0 + r.val), by omega⟩) (win x4) ⟨f.val, by omega⟩)
    (hZ : ∀ r a : Fin 512, Z (ix2 r a) = conv H x4 x9 (ix2 ⟨0 + r.val, by omega⟩ a))
    (r k : Fin 1024) (hr : 0 ≤ r.val ∧ r.val < 512) :
    View.canon (Val := Elt Ideal) (e := .bf16) (⟨Rect.unit (s := S1024x1024) ![0, 512] ![512, 512] inb_S1024x1024_S512x512_0_512, k0_pay44 (F := Ideal) P Z⟩ ::
      ⟨Rect.unit (s := S1024x1024) ![384, 384] ![128, 128] inb_S1024x1024_S128x128_384_384, k0_pay43 (F := Ideal) U (k0_pay39 (F := Ideal) (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)))⟩ ::
      ⟨Rect.unit (s := S1024x1024) ![256, 384] ![128, 128] inb_S1024x1024_S128x128_256_384, k0_pay42 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))⟩ ::
      ⟨Rect.unit (s := S1024x1024) ![128, 384] ![128, 128] inb_S1024x1024_S128x128_128_384, k0_pay41 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))⟩ ::
      ⟨Rect.unit (s := S1024x1024) ![0, 384] ![128, 128] inb_S1024x1024_S128x128_0_384, k0_pay40 (F := Ideal) U (k0_pay20 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))⟩ ::
      ⟨Rect.unit (s := S1024x1024) ![384, 256] ![128, 128] inb_S1024x1024_S128x128_384_256, k0_pay38 (F := Ideal) U (k0_pay33 (F := Ideal) (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![256, 256] ![128, 128] inb_S1024x1024_S128x128_256_256, k0_pay37 (F := Ideal) (k0_pay36 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![128, 256] ![128, 128] inb_S1024x1024_S128x128_128_256, k0_pay35 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))⟩ ::
      ⟨Rect.unit (s := S1024x1024) ![0, 256] ![128, 128] inb_S1024x1024_S128x128_0_256, k0_pay34 (F := Ideal) U (k0_pay20 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))⟩ ::
      ⟨Rect.unit (s := S1024x1024) ![384, 128] ![128, 128] inb_S1024x1024_S128x128_384_128, k0_pay32 (F := Ideal) U (k0_pay27 (F := Ideal) (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![256, 128] ![128, 128] inb_S1024x1024_S128x128_256_128, k0_pay31 (F := Ideal) (k0_pay30 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![128, 128] ![128, 128] inb_S1024x1024_S128x128_128_128, k0_pay29 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))⟩ ::
      ⟨Rect.unit (s := S1024x1024) ![0, 128] ![128, 128] inb_S1024x1024_S128x128_0_128, k0_pay28 (F := Ideal) U (k0_pay20 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))⟩ ::
      ⟨Rect.unit (s := S1024x1024) ![384, 0] ![128, 128] inb_S1024x1024_S128x128_384_0, k0_pay26 (F := Ideal) U (k0_pay21 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      ⟨Rect.unit (s := S1024x1024) ![256, 0] ![128, 128] inb_S1024x1024_S128x128_256_0, k0_pay25 (F := Ideal) (k0_pay24 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      ⟨Rect.unit (s := S1024x1024) ![128, 0] ![128, 128] inb_S1024x1024_S128x128_128_0, k0_pay23 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))⟩ ::
      ⟨Rect.unit (s := S1024x1024) ![0, 0] ![128, 128] inb_S1024x1024_S128x128_0_0, k0_pay22 (F := Ideal) U A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))⟩ ::
      []) (ix2 r k) = mid H x4 x5 x6 x7 x8 x9 r k := by
  refine canon_tile _ _ _ _ (by omega) (by omega) (fun i a => ?_) r k fun n0 => ?_
  · rw [← short_val H x4 x5 x6 x7 x8 x9 P Z 0 (by omega) hP hZ i a]
    pointwise [k0_pay44]
  have m0 : k.val < 512 := by omega
  refine canon_tile _ _ _ _ (by omega) (by omega) (fun i a => tile1_33 H x4 x5 x6 x7 x8 x9 U A R hU hN i a) r k fun n1 => ?_
  refine canon_tile _ _ _ _ (by omega) (by omega) (fun i a => tile1_23 H x4 x5 x6 x7 x8 x9 U A R hU hN i a) r k fun n2 => ?_
  refine canon_tile _ _ _ _ (by omega) (by omega) (fun i a => tile1_13 H x4 x5 x6 x7 x8 x9 U A R hU hN i a) r k fun n3 => ?_
  refine canon_tile _ _ _ _ (by omega) (by omega) (fun i a => tile1_03 H x4 x5 x6 x7 x8 x9 U A R hU hN i a) r k fun n4 => ?_
  have m4 : k.val < 384 := by clear hU hN hP hZ; omega
  refine canon_tile _ _ _ _ (by omega) (by omega) (fun i a => tile1_32 H x4 x5 x6 x7 x8 x9 U A R hU hN i a) r k fun n5 => ?_
  refine canon_tile _ _ _ _ (by omega) (by omega) (fun i a => tile1_22 H x4 x5 x6 x7 x8 x9 U A R hU hN i a) r k fun n6 => ?_
  refine canon_tile _ _ _ _ (by omega) (by omega) (fun i a => tile1_12 H x4 x5 x6 x7 x8 x9 U A R hU hN i a) r k fun n7 => ?_
  refine canon_tile _ _ _ _ (by omega) (by omega) (fun i a => tile1_02 H x4 x5 x6 x7 x8 x9 U A R hU hN i a) r k fun n8 => ?_
  have m8 : k.val < 256 := by clear hU hN hP hZ; omega
  refine canon_tile _ _ _ _ (by omega) (by omega) (fun i a => tile1_31 H x4 x5 x6 x7 x8 x9 U A R hU hN i a) r k fun n9 => ?_
  refine canon_tile _ _ _ _ (by omega) (by omega) (fun i a => tile1_21 H x4 x5 x6 x7 x8 x9 U A R hU hN i a) r k fun n10 => ?_
  refine canon_tile _ _ _ _ (by omega) (by omega) (fun i a => tile1_11 H x4 x5 x6 x7 x8 x9 U A R hU hN i a) r k fun n11 => ?_
  refine canon_tile _ _ _ _ (by omega) (by omega) (fun i a => tile1_01 H x4 x5 x6 x7 x8 x9 U A R hU hN i a) r k fun n12 => ?_
  have m12 : k.val < 128 := by clear hU hN hP hZ; omega
  refine canon_tile _ _ _ _ (by omega) (by omega) (fun i a => tile1_30 H x4 x5 x6 x7 x8 x9 U A R hU hN i a) r k fun n13 => ?_
  refine canon_tile _ _ _ _ (by omega) (by omega) (fun i a => tile1_20 H x4 x5 x6 x7 x8 x9 U A R hU hN i a) r k fun n14 => ?_
  refine canon_tile _ _ _ _ (by omega) (by omega) (fun i a => tile1_10 H x4 x5 x6 x7 x8 x9 U A R hU hN i a) r k fun n15 => ?_
  refine canon_tile _ _ _ _ (by omega) (by omega) (fun i a => tile1_00 H x4 x5 x6 x7 x8 x9 U A R hU hN i a) r k fun n16 => ?_
  exfalso; clear hU hN hP hZ; omega

theorem tile2_33 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay75 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))) (ix2 i a) = mid H x4 x5 x6 x7 x8 x9 ⟨896 + i.val, by omega⟩ ⟨384 + a.val, by omega⟩ := by
  rw [← tile_val H x4 x5 x6 x7 x8 x9 U _ 512 3 3 896 384 (by omega) (by omega) (by omega) (by omega) rfl rfl hU hN i a]
  generalize k0_pay50 (F := Ideal) A R x5 x6 = N
  pointwise [k0_pay75, k0_pay70]
  simp only [show ¬(384 + a.val < 128) by omega, show ¬(384 + a.val - 128 < 128) by omega, show ¬(384 + a.val - 128 - 128 < 128) by omega, show 384 + a.val - 128 - 128 - 128 = a.val by omega, dite_false]

theorem tile2_23 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay74 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))) (ix2 i a) = mid H x4 x5 x6 x7 x8 x9 ⟨768 + i.val, by omega⟩ ⟨384 + a.val, by omega⟩ := by
  rw [← tile_val H x4 x5 x6 x7 x8 x9 U _ 512 2 3 768 384 (by omega) (by omega) (by omega) (by omega) rfl rfl hU hN i a]
  generalize k0_pay50 (F := Ideal) A R x5 x6 = N
  pointwise [k0_pay74, k0_pay70]
  simp only [show ¬(256 + a.val < 128) by omega, show ¬(256 + a.val - 128 < 128) by omega, show 256 + a.val - 128 - 128 = a.val by omega, a.isLt, dite_false, dite_true]

theorem tile2_13 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay73 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))) (ix2 i a) = mid H x4 x5 x6 x7 x8 x9 ⟨640 + i.val, by omega⟩ ⟨384 + a.val, by omega⟩ := by
  rw [← tile_val H x4 x5 x6 x7 x8 x9 U _ 512 1 3 640 384 (by omega) (by omega) (by omega) (by omega) rfl rfl hU hN i a]
  generalize k0_pay50 (F := Ideal) A R x5 x6 = N
  pointwise [k0_pay73, k0_pay70]

theorem tile2_03 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay72 (F := Ideal) (k0_pay71 (F := Ideal) U (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0))) (ix2 i a) = mid H x4 x5 x6 x7 x8 x9 ⟨512 + i.val, by omega⟩ ⟨384 + a.val, by omega⟩ := by
  rw [← tile_val H x4 x5 x6 x7 x8 x9 U _ 512 0 3 512 384 (by omega) (by omega) (by omega) (by omega) rfl rfl hU hN i a]
  generalize k0_pay50 (F := Ideal) A R x5 x6 = N
  pointwise [k0_pay72, k0_pay71, k0_pay70]

theorem tile2_32 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay69 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨896 + i.val, by omega⟩ ⟨256 + a.val, by omega⟩ := by
  rw [← tile_val H x4 x5 x6 x7 x8 x9 U _ 512 3 2 896 256 (by omega) (by omega) (by omega) (by omega) rfl rfl hU hN i a]
  generalize k0_pay50 (F := Ideal) A R x5 x6 = N
  pointwise [k0_pay69, k0_pay64]
  simp only [show ¬(384 + a.val < 128) by omega, show ¬(384 + a.val - 128 < 128) by omega, show ¬(384 + a.val - 128 - 128 < 128) by omega, show 384 + a.val - 128 - 128 - 128 = a.val by omega, dite_false]

theorem tile2_22 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay68 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨768 + i.val, by omega⟩ ⟨256 + a.val, by omega⟩ := by
  rw [← tile_val H x4 x5 x6 x7 x8 x9 U _ 512 2 2 768 256 (by omega) (by omega) (by omega) (by omega) rfl rfl hU hN i a]
  generalize k0_pay50 (F := Ideal) A R x5 x6 = N
  pointwise [k0_pay68, k0_pay64]
  simp only [show ¬(256 + a.val < 128) by omega, show ¬(256 + a.val - 128 < 128) by omega, show 256 + a.val - 128 - 128 = a.val by omega, a.isLt, dite_false, dite_true]

theorem tile2_12 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay67 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨640 + i.val, by omega⟩ ⟨256 + a.val, by omega⟩ := by
  rw [← tile_val H x4 x5 x6 x7 x8 x9 U _ 512 1 2 640 256 (by omega) (by omega) (by omega) (by omega) rfl rfl hU hN i a]
  generalize k0_pay50 (F := Ideal) A R x5 x6 = N
  pointwise [k0_pay67, k0_pay64]

theorem tile2_02 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay66 (F := Ideal) (k0_pay65 (F := Ideal) U (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0))) (ix2 i a) = mid H x4 x5 x6 x7 x8 x9 ⟨512 + i.val, by omega⟩ ⟨256 + a.val, by omega⟩ := by
  rw [← tile_val H x4 x5 x6 x7 x8 x9 U _ 512 0 2 512 256 (by omega) (by omega) (by omega) (by omega) rfl rfl hU hN i a]
  generalize k0_pay50 (F := Ideal) A R x5 x6 = N
  pointwise [k0_pay66, k0_pay65, k0_pay64]

theorem tile2_31 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay63 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨896 + i.val, by omega⟩ ⟨128 + a.val, by omega⟩ := by
  rw [← tile_val H x4 x5 x6 x7 x8 x9 U _ 512 3 1 896 128 (by omega) (by omega) (by omega) (by omega) rfl rfl hU hN i a]
  generalize k0_pay50 (F := Ideal) A R x5 x6 = N
  pointwise [k0_pay63, k0_pay58]
  simp only [show ¬(384 + a.val < 128) by omega, show ¬(384 + a.val - 128 < 128) by omega, show ¬(384 + a.val - 128 - 128 < 128) by omega, show 384 + a.val - 128 - 128 - 128 = a.val by omega, dite_false]

theorem tile2_21 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay62 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨768 + i.val, by omega⟩ ⟨128 + a.val, by omega⟩ := by
  rw [← tile_val H x4 x5 x6 x7 x8 x9 U _ 512 2 1 768 128 (by omega) (by omega) (by omega) (by omega) rfl rfl hU hN i a]
  generalize k0_pay50 (F := Ideal) A R x5 x6 = N
  pointwise [k0_pay62, k0_pay58]
  simp only [show ¬(256 + a.val < 128) by omega, show ¬(256 + a.val - 128 < 128) by omega, show 256 + a.val - 128 - 128 = a.val by omega, a.isLt, dite_false, dite_true]

theorem tile2_11 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay61 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨640 + i.val, by omega⟩ ⟨128 + a.val, by omega⟩ := by
  rw [← tile_val H x4 x5 x6 x7 x8 x9 U _ 512 1 1 640 128 (by omega) (by omega) (by omega) (by omega) rfl rfl hU hN i a]
  generalize k0_pay50 (F := Ideal) A R x5 x6 = N
  pointwise [k0_pay61, k0_pay58]

theorem tile2_01 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay60 (F := Ideal) (k0_pay59 (F := Ideal) U (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0))) (ix2 i a) = mid H x4 x5 x6 x7 x8 x9 ⟨512 + i.val, by omega⟩ ⟨128 + a.val, by omega⟩ := by
  rw [← tile_val H x4 x5 x6 x7 x8 x9 U _ 512 0 1 512 128 (by omega) (by omega) (by omega) (by omega) rfl rfl hU hN i a]
  generalize k0_pay50 (F := Ideal) A R x5 x6 = N
  pointwise [k0_pay60, k0_pay59, k0_pay58]

theorem tile2_30 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay57 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨896 + i.val, by omega⟩ ⟨0 + a.val, by omega⟩ := by
  rw [← tile_val H x4 x5 x6 x7 x8 x9 U _ 512 3 0 896 0 (by omega) (by omega) (by omega) (by omega) rfl rfl hU hN i a]
  unfold k0_pay57 k0_pay51
  generalize k0_pay50 (F := Ideal) A R x5 x6 = N
  pointwise
  simp only [show ¬(384 + a.val < 128) by omega, show ¬(384 + a.val - 128 < 128) by omega, show ¬(384 + a.val - 128 - 128 < 128) by omega, show 384 + a.val - 128 - 128 - 128 = a.val by omega, dite_false]

theorem tile2_20 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay56 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨768 + i.val, by omega⟩ ⟨0 + a.val, by omega⟩ := by
  rw [← tile_val H x4 x5 x6 x7 x8 x9 U _ 512 2 0 768 0 (by omega) (by omega) (by omega) (by omega) rfl rfl hU hN i a]
  unfold k0_pay56 k0_pay51
  generalize k0_pay50 (F := Ideal) A R x5 x6 = N
  pointwise
  simp only [show ¬(256 + a.val < 128) by omega, show ¬(256 + a.val - 128 < 128) by omega, show 256 + a.val - 128 - 128 = a.val by omega, a.isLt, dite_false, dite_true]

theorem tile2_10 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay55 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨640 + i.val, by omega⟩ ⟨0 + a.val, by omega⟩ := by
  rw [← tile_val H x4 x5 x6 x7 x8 x9 U _ 512 1 0 640 0 (by omega) (by omega) (by omega) (by omega) rfl rfl hU hN i a]
  unfold k0_pay55 k0_pay51
  generalize k0_pay50 (F := Ideal) A R x5 x6 = N
  pointwise

theorem tile2_00 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a) (i a : Fin 128) :
    k0_pay54 (F := Ideal) (k0_pay52 (F := Ideal) U) (k0_pay53 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0))) (ix2 i a) = mid H x4 x5 x6 x7 x8 x9 ⟨512 + i.val, by omega⟩ ⟨0 + a.val, by omega⟩ := by
  rw [← tile_val H x4 x5 x6 x7 x8 x9 U _ 512 0 0 512 0 (by omega) (by omega) (by omega) (by omega) rfl rfl hU hN i a]
  unfold k0_pay54 k0_pay53 k0_pay52 k0_pay51
  generalize k0_pay50 (F := Ideal) A R x5 x6 = N
  pointwise

/-- The rows 512 to 1023 of the two halves, whatever was stored before them. -/
theorem half2 (U : FVec Ideal S512x512 .f32) (A : FVec Ideal S512x512 .f32) (R : FVec Ideal S512x512 .f32)
    (hU : ∀ r a : Fin 512, U (ix2 r a) = Rows.gelu (Rows.lin (row H ⟨16 + (512 + r.val), by omega⟩) (win x4) ⟨a.val, by omega⟩))
    (hN : ∀ r a : Fin 512, k0_pay50 (F := Ideal) A R x5 x6 (ix2 r a) = Rows.gated (row H ⟨16 + (512 + r.val), by omega⟩) (win x4) (fun a => x5 (ix2 0 a)) (fun a => x6 (ix2 0 a)) a)
    (P : FVec Ideal S512x1536 .f32) (Z : FVec Ideal S512x512 .f32)
    (hP : ∀ (r : Fin 512) (f : Fin 1536), P (ix2 r f) = Rows.lin (row H ⟨16 + (512 + r.val), by omega⟩) (win x4) ⟨f.val, by omega⟩)
    (hZ : ∀ r a : Fin 512, Z (ix2 r a) = conv H x4 x9 (ix2 ⟨512 + r.val, by omega⟩ a)) (L : List (View.Piece (Elt Ideal) S1024x1024 .bf16))
    (r k : Fin 1024) (hr : 512 ≤ r.val ∧ r.val < 1024) :
    View.canon (Val := Elt Ideal) (e := .bf16) (⟨Rect.unit (s := S1024x1024) ![512, 512] ![512, 512] inb_S1024x1024_S512x512_512_512, k0_pay76 (F := Ideal) P Z⟩ ::
      ⟨Rect.unit (s := S1024x1024) ![896, 384] ![128, 128] inb_S1024x1024_S128x128_896_384, k0_pay75 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)))⟩ ::
      ⟨Rect.unit (s := S1024x1024) ![768, 384] ![128, 128] inb_S1024x1024_S128x128_768_384, k0_pay74 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)))⟩ ::
      ⟨Rect.unit (s := S1024x1024) ![640, 384] ![128, 128] inb_S1024x1024_S128x128_640_384, k0_pay73 (F := Ideal) U (k0_pay70 (F := Ideal) (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)))⟩ ::
      ⟨Rect.unit (s := S1024x1024) ![512, 384] ![128, 128] inb_S1024x1024_S128x128_512_384, k0_pay72 (F := Ideal) (k0_pay71 (F := Ideal) U (k0_pay50 (F := Ideal) A R x5 x6) (View.ld x7 (Rect.unit ![3, 0, 0] ![1, 128, 128] inb_S4x128x128_S1x128x128_3_0_0)) (View.ld x8 (Rect.unit ![3, 0, 0] ![1, 128, 1] inb_S4x128x1_S1x128x1_3_0_0)))⟩ ::
      ⟨Rect.unit (s := S1024x1024) ![896, 256] ![128, 128] inb_S1024x1024_S128x128_896_256, k0_pay69 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![768, 256] ![128, 128] inb_S1024x1024_S128x128_768_256, k0_pay68 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![640, 256] ![128, 128] inb_S1024x1024_S128x128_640_256, k0_pay67 (F := Ideal) U (k0_pay64 (F := Ideal) (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![512, 256] ![128, 128] inb_S1024x1024_S128x128_512_256, k0_pay66 (F := Ideal) (k0_pay65 (F := Ideal) U (k0_pay50 (F := Ideal) A R x5 x6) (View.ld x7 (Rect.unit ![2, 0, 0] ![1, 128, 128] inb_S4x128x128_S1x128x128_2_0_0)) (View.ld x8 (Rect.unit ![2, 0, 0] ![1, 128, 1] inb_S4x128x1_S1x128x1_2_0_0)))⟩ ::
      ⟨Rect.unit (s := S1024x1024) ![896, 128] ![128, 128] inb_S1024x1024_S128x128_896_128, k0_pay63 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![768, 128] ![128, 128] inb_S1024x1024_S128x128_768_128, k0_pay62 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![640, 128] ![128, 128] inb_S1024x1024_S128x128_640_128, k0_pay61 (F := Ideal) U (k0_pay58 (F := Ideal) (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![512, 128] ![128, 128] inb_S1024x1024_S128x128_512_128, k0_pay60 (F := Ideal) (k0_pay59 (F := Ideal) U (k0_pay50 (F := Ideal) A R x5 x6) (View.ld x7 (Rect.unit ![1, 0, 0] ![1, 128, 128] inb_S4x128x128_S1x128x128_1_0_0)) (View.ld x8 (Rect.unit ![1, 0, 0] ![1, 128, 1] inb_S4x128x1_S1x128x1_1_0_0)))⟩ ::
      ⟨Rect.unit (s := S1024x1024) ![896, 0] ![128, 128] inb_S1024x1024_S128x128_896_0, k0_pay57 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      ⟨Rect.unit (s := S1024x1024) ![768, 0] ![128, 128] inb_S1024x1024_S128x128_768_0, k0_pay56 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      ⟨Rect.unit (s := S1024x1024) ![640, 0] ![128, 128] inb_S1024x1024_S128x128_640_0, k0_pay55 (F := Ideal) U (k0_pay51 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      ⟨Rect.unit (s := S1024x1024) ![512, 0] ![128, 128] inb_S1024x1024_S128x128_512_0, k0_pay54 (F := Ideal) (k0_pay52 (F := Ideal) U) (k0_pay53 (F := Ideal) A R x5 x6 (View.ld x7 (Rect.unit ![0, 0, 0] ![1, 128, 128] inb_S4x128x128_S1x128x128_0_0_0)) (View.ld x8 (Rect.unit ![0, 0, 0] ![1, 128, 1] inb_S4x128x1_S1x128x1_0_0_0)))⟩ ::
      L) (ix2 r k) = mid H x4 x5 x6 x7 x8 x9 r k := by
  refine canon_tile _ _ _ _ (by omega) (by omega) (fun i a => ?_) r k fun n0 => ?_
  · rw [← short_val H x4 x5 x6 x7 x8 x9 P Z 512 (by omega) hP hZ i a]
    pointwise [k0_pay76]
  have m0 : k.val < 512 := by omega
  refine canon_tile _ _ _ _ (by omega) (by omega) (fun i a => tile2_33 H x4 x5 x6 x7 x8 x9 U A R hU hN i a) r k fun n1 => ?_
  refine canon_tile _ _ _ _ (by omega) (by omega) (fun i a => tile2_23 H x4 x5 x6 x7 x8 x9 U A R hU hN i a) r k fun n2 => ?_
  refine canon_tile _ _ _ _ (by omega) (by omega) (fun i a => tile2_13 H x4 x5 x6 x7 x8 x9 U A R hU hN i a) r k fun n3 => ?_
  refine canon_tile _ _ _ _ (by omega) (by omega) (fun i a => tile2_03 H x4 x5 x6 x7 x8 x9 U A R hU hN i a) r k fun n4 => ?_
  have m4 : k.val < 384 := by clear hU hN hP hZ; omega
  refine canon_tile _ _ _ _ (by omega) (by omega) (fun i a => tile2_32 H x4 x5 x6 x7 x8 x9 U A R hU hN i a) r k fun n5 => ?_
  refine canon_tile _ _ _ _ (by omega) (by omega) (fun i a => tile2_22 H x4 x5 x6 x7 x8 x9 U A R hU hN i a) r k fun n6 => ?_
  refine canon_tile _ _ _ _ (by omega) (by omega) (fun i a => tile2_12 H x4 x5 x6 x7 x8 x9 U A R hU hN i a) r k fun n7 => ?_
  refine canon_tile _ _ _ _ (by omega) (by omega) (fun i a => tile2_02 H x4 x5 x6 x7 x8 x9 U A R hU hN i a) r k fun n8 => ?_
  have m8 : k.val < 256 := by clear hU hN hP hZ; omega
  refine canon_tile _ _ _ _ (by omega) (by omega) (fun i a => tile2_31 H x4 x5 x6 x7 x8 x9 U A R hU hN i a) r k fun n9 => ?_
  refine canon_tile _ _ _ _ (by omega) (by omega) (fun i a => tile2_21 H x4 x5 x6 x7 x8 x9 U A R hU hN i a) r k fun n10 => ?_
  refine canon_tile _ _ _ _ (by omega) (by omega) (fun i a => tile2_11 H x4 x5 x6 x7 x8 x9 U A R hU hN i a) r k fun n11 => ?_
  refine canon_tile _ _ _ _ (by omega) (by omega) (fun i a => tile2_01 H x4 x5 x6 x7 x8 x9 U A R hU hN i a) r k fun n12 => ?_
  have m12 : k.val < 128 := by clear hU hN hP hZ; omega
  refine canon_tile _ _ _ _ (by omega) (by omega) (fun i a => tile2_30 H x4 x5 x6 x7 x8 x9 U A R hU hN i a) r k fun n13 => ?_
  refine canon_tile _ _ _ _ (by omega) (by omega) (fun i a => tile2_20 H x4 x5 x6 x7 x8 x9 U A R hU hN i a) r k fun n14 => ?_
  refine canon_tile _ _ _ _ (by omega) (by omega) (fun i a => tile2_10 H x4 x5 x6 x7 x8 x9 U A R hU hN i a) r k fun n15 => ?_
  refine canon_tile _ _ _ _ (by omega) (by omega) (fun i a => tile2_00 H x4 x5 x6 x7 x8 x9 U A R hU hN i a) r k fun n16 => ?_
  exfalso; clear hU hN hP hZ; omega

variable (x0 : Vec Ideal S1024x1024 .f32) (x1 x2 : Vec Ideal S16x1024 .f32) (x3 : Vec Ideal S1x1024 .f32) (v : BitVec 32)

/-- The normalised rows in scratch: sixteen before the block, the block, sixteen after it. -/
def hs : Vec Ideal S1056x1024 .bf16 :=
  View.canon (Val := Elt Ideal) (e := .bf16)
    [⟨Rect.unit (s := S1056x1024) ![1040, 0] ![16, 1024] inb_S1056x1024_S16x1024_1040_0, k0_pay13 (F := Ideal) (k0_pay10 (F := Ideal) v (k0_pay5 (F := Ideal) x3) x2)⟩,
     ⟨Rect.unit (s := S1056x1024) ![16, 0] ![1024, 1024] inb_S1056x1024_S1024x1024_16_0,
      k0_pay12 (F := Ideal) (k0_pay8 (F := Ideal) (k0_pay5 (F := Ideal) x3) (k0_pay6 (F := Ideal) x0) (k0_pay7 (F := Ideal) x0) (FloatOps.ofBits (F := Ideal) FTy.f32 1149239296#32))⟩,
     ⟨Rect.unit (s := S1056x1024) ![0, 0] ![16, 1024] inb_S1056x1024_S16x1024_0_0, k0_pay11 (F := Ideal) (k0_pay9 (F := Ideal) v (k0_pay5 (F := Ideal) x3) x1)⟩]

theorem select_eq (a b : BitVec 32) (p q : EReal) : Scalar.select (Scalar.cmpi CmpIPredicate.eq a b) p q = if a = b then p else q := by
  by_cases h : a = b
  · simp [h, Scalar.cmpi, IntOp.cmpi, Scalar.select]
  · have e : (a == b) = false := by simp [h]
    simp [h, e, Scalar.cmpi, IntOp.cmpi, Scalar.select]

theorem body_at (r k : Fin 1024) :
    k0_pay12 (F := Ideal) (k0_pay8 (F := Ideal) (k0_pay5 (F := Ideal) x3) (k0_pay6 (F := Ideal) x0) (k0_pay7 (F := Ideal) x0) (FloatOps.ofBits (F := Ideal) FTy.f32 1149239296#32)) (ix2 r k)
      = Rows.rms (fun j => x0 (ix2 r j)) (fun j => x3 (ix2 0 j)) k := by
  unfold Rows.rms
  pointwise [k0_pay12, k0_pay8, k0_pay7, k0_pay6, k0_pay5]

theorem before_at (r : Fin 16) (k : Fin 1024) :
    k0_pay11 (F := Ideal) (k0_pay9 (F := Ideal) v (k0_pay5 (F := Ideal) x3) x1) (ix2 r k)
      = if v = 0#32 then 0 else Rows.rms (fun j => x1 (ix2 r j)) (fun j => x3 (ix2 0 j)) k := by
  unfold Rows.rms
  pointwise [k0_pay11, k0_pay9, k0_pay5]
  exact select_eq _ _ _ _

theorem after_at (r : Fin 16) (k : Fin 1024) :
    k0_pay13 (F := Ideal) (k0_pay10 (F := Ideal) v (k0_pay5 (F := Ideal) x3) x2) (ix2 r k)
      = if v = 3#32 then 0 else Rows.rms (fun j => x2 (ix2 r j)) (fun j => x3 (ix2 0 j)) k := by
  unfold Rows.rms
  pointwise [k0_pay13, k0_pay10, k0_pay5]
  exact select_eq _ _ _ _

/-- The scratch, row by row. -/
def rows (q : Fin 1056) (k : Fin 1024) : EReal :=
  if h : q.val < 16 then (if v = 0#32 then 0 else Rows.rms (fun j => x1 (ix2 ⟨q.val, h⟩ j)) (fun j => x3 (ix2 0 j)) k)
  else if h' : q.val < 1040 then Rows.rms (fun j => x0 (ix2 ⟨q.val - 16, by omega⟩ j)) (fun j => x3 (ix2 0 j)) k
  else (if v = 3#32 then 0 else Rows.rms (fun j => x2 (ix2 ⟨q.val - 1040, by omega⟩ j)) (fun j => x3 (ix2 0 j)) k)

theorem hs_at (q : Fin 1056) (k : Fin 1024) : hs x0 x1 x2 x3 v (ix2 q k) = rows x0 x1 x2 x3 v q k := by
  unfold hs
  refine canon_tile _ _ _ _ (by omega) (by omega) (fun i a => ?_) q k fun n0 => ?_
  · refine (after_at x2 x3 v i a).trans ?_
    unfold rows
    rw [dif_neg (by show ¬(1040 + i.val < 16); omega), dif_neg (by show ¬(1040 + i.val < 1040); omega)]
    simp only [Nat.zero_add, Nat.add_sub_cancel_left]
  refine canon_tile _ _ _ _ (by omega) (by omega) (fun i a => ?_) q k fun n1 => ?_
  · refine (body_at x0 x3 i a).trans ?_
    unfold rows
    rw [dif_neg (by show ¬(16 + i.val < 16); omega), dif_pos (by show (16 + i.val < 1040); omega)]
    simp only [Nat.zero_add, Nat.add_sub_cancel_left]
  refine canon_tile _ _ _ _ (by omega) (by omega) (fun i a => ?_) q k fun n2 => ?_
  · refine (before_at x1 x3 v i a).trans ?_
    unfold rows
    rw [dif_pos (by show (0 + i.val < 16); omega)]
    simp only [Nat.zero_add]
  exfalso
  omega

/-- The two stored halves of the output block. -/
theorem halves_at (S T : Vec Ideal S1024x1024 .bf16) (M : Fin 1024 → Fin 1024 → EReal) (hS : ∀ r c : Fin 1024, r.val < 512 → S (ix2 r c) = M r c)
    (hT : ∀ r c : Fin 1024, 512 ≤ r.val → T (ix2 r c) = M r c) (r k : Fin 1024) :
    View.canon (Val := Elt Ideal) (e := .f32)
      [⟨Rect.unit (s := S1024x1024) ![512, 0] ![512, 1024] inb_S1024x1024_S512x1024_512_0,
        k0_pay1 (F := Ideal) (k0_pay77 (F := Ideal) (View.ld x0 (Rect.unit ![512, 0] ![512, 1024] inb_S1024x1024_S512x1024_512_0)))
          (k0_pay78 (F := Ideal) (View.ld T (Rect.unit ![512, 0] ![512, 1024] inb_S1024x1024_S512x1024_512_0)) x10)⟩,
       ⟨Rect.unit (s := S1024x1024) ![0, 0] ![512, 1024] inb_S1024x1024_S512x1024_0_0,
        k0_pay45 (F := Ideal) (View.ld x0 (Rect.unit ![0, 0] ![512, 1024] inb_S1024x1024_S512x1024_0_0))
          (View.ld S (Rect.unit ![0, 0] ![512, 1024] inb_S1024x1024_S512x1024_0_0)) x10⟩] (ix2 r k)
      = x0 (ix2 r k) + ∑ c, M r c * x10 (ix2 c k) := by
  refine canon_tile _ _ _ (fun r k => x0 (ix2 r k) + ∑ c, M r c * x10 (ix2 c k)) (by omega) (by omega) (fun i a => ?_) r k fun n0 => ?_
  · have h := fun c : Fin 1024 => hT ⟨512 + i.val, by omega⟩ c (by show 512 ≤ 512 + i.val; omega)
    simp only [← h]
    pointwise [k0_pay1, k0_pay77, k0_pay78]
  refine canon_tile _ _ _ (fun r k => x0 (ix2 r k) + ∑ c, M r c * x10 (ix2 c k)) (by omega) (by omega) (fun i a => ?_) r k fun n1 => ?_
  · have h := fun c : Fin 1024 => hS ⟨0 + i.val, by omega⟩ c (by show 0 + i.val < 512; omega)
    simp only [← h]
    pointwise [k0_pay45]
  exfalso
  omega

/-- The convolution's sum read back from its scratch. -/
theorem conv_read (r : Fin 1024) (a : Fin 512) :
    View.canon (Val := Elt Ideal) (e := .f32) [⟨Rect.unit (s := S1024x512) ![0, 0] ![1024, 512] inb_S1024x512_S1024x512_0_0, conv H x4 x9⟩] (ix2 r a) = conv H x4 x9 (ix2 r a) := by
  refine canon_tile (n0 := 1024) (n1 := 512) (e := .f32) _ _ _ (fun r a => conv H x4 x9 (ix2 r a)) (by omega) (by omega) (fun i a => ?_) r a fun n0 => ?_
  · simp only [Nat.zero_add]
  exfalso
  omega

variable (m : (ℓ : Loc nD τ sig) → Buf (Elt Ideal) ℓ)

/-- The position of a grid point among the four blocks of its sequence, as the body computes it. -/
def pos (t : Fin cfg0.N) : BitVec 32 :=
  Scalar.select
    (Scalar.andi (Scalar.xori (Scalar.cmpi CmpIPredicate.slt (Scalar.remsi (BitVec.ofNat 32 (grid0.coords t 0).val) 4#32) 0#32) 0#1)
      (Scalar.cmpi CmpIPredicate.ne (Scalar.remsi (BitVec.ofNat 32 (grid0.coords t 0).val) 4#32) 0#32))
    (Scalar.addi (Scalar.remsi (BitVec.ofNat 32 (grid0.coords t 0).val) 4#32) 4#32) (Scalar.remsi (BitVec.ofNat 32 (grid0.coords t 0).val) 4#32)

theorem pos_eq : ∀ t : Fin cfg0.N, pos t = BitVec.ofNat 32 (t.val % 4) := (by decide +kernel : ∀ t : Fin grid0.N, _)

theorem read_ld {κ sp} {s : Shape} {e : EltTy} (w : View sig κ sp s e) (L : List (View.Piece (Elt Ideal) s e)) (R : Rect s) :
    w.readCov L R.toLoadRect = View.ld (View.canon L) R := View.readCov_eq_canon' w L R.toLoadRect

/-- What a grid point leaves in the output block, at row `r`. -/
theorem out_at (c : Dev nD) (t : Fin cfg0.N) (r k : Fin 1024)
    (h0 : iblk m c 0 t = x0) (h1 : iblk m c 1 t = x1) (h2 : iblk m c 2 t = x2) (h3 : iblk m c 3 t = x3) (h4 : iblk m c 4 t = x4) (h5 : iblk m c 5 t = x5)
    (h6 : iblk m c 6 t = x6) (h7 : iblk m c 7 t = x7) (h8 : iblk m c 8 t = x8) (h9 : iblk m c 9 t = x9) (h10 : iblk m c 10 t = x10) :
    (outsAt0 m c t).1 (ix2 r k) = x0 (ix2 r k) + ∑ a, mid (hs x0 x1 x2 x3 (pos t)) x4 x5 x6 x7 x8 x9 r a * x10 (ix2 a k) := by
  unfold outsAt0
  frame_out
  simp only [read_ld]
  simp only [h0, h1, h2, h3, h4, h5, h6, h7, h8, h9, h10]
  have z : ∀ n : Nat, 16 + (512 + n) = 528 + n := fun n => by omega
  refine halves_at x10 x0 _ _ (mid (hs x0 x1 x2 x3 (pos t)) x4 x5 x6 x7 x8 x9) (fun r a hr => ?_) (fun r a hr => ?_) r k
  · refine half1 (hs x0 x1 x2 x3 (pos t)) x4 x5 x6 x7 x8 x9 _ _ _ (fun r a => ?_) (fun r a => ?_) _ _ (fun r f => ?_) (fun r a => ?_) r a (by omega)
    · simp only [Nat.zero_add]; exact plain_at _ _ r a
    · simp only [Nat.zero_add]; exact norm_at _ _ _ _ r a
    · simp only [Nat.zero_add]; exact proj_at _ _ r f
    · refine Eq.trans ?_ (conv_read (hs x0 x1 x2 x3 (pos t)) x4 x9 ⟨0 + r.val, by omega⟩ a)
      pointwise
      rfl
  · refine half2 (hs x0 x1 x2 x3 (pos t)) x4 x5 x6 x7 x8 x9 _ _ _ (fun r a => ?_) (fun r a => ?_) _ _ (fun r f => ?_) (fun r a => ?_) _ r a (by omega)
    · simp only [z]; exact (plain2_at _ r a).trans (congrArg Rows.gelu (proj2_at _ _ r _))
    · simp only [z]; refine (norm2_at _ _ _ r a).trans ?_
      unfold Rows.gated
      have h := fun e : Fin 512 => proj2_at (hs x0 x1 x2 x3 (pos t)) x4 r ⟨512 + e.val, by omega⟩
      simp only at h
      simp only [← h]
      rfl
    · simp only [z]; exact proj2_at _ _ r f
    · refine Eq.trans ?_ (conv_read (hs x0 x1 x2 x3 (pos t)) x4 x9 ⟨512 + r.val, by omega⟩ a)
      pointwise
      rfl

end Cert.KernelIdeal.MixValue

end
-- ==== Proof.MixRef.lean ====
/- The even layer's reference, read at one row. -/
module

public import proofs.«01_k».proof.Proof.Gen.ReferenceIdeal.Read
public import proofs.«01_k».proof.Proof.Mixer

@[expose] public section

set_option maxRecDepth 16384

noncomputable section

namespace Cert.ReferenceIdeal.MixRef

open Cert.ReferenceIdeal Cert.ReferenceIdeal.Gen Cert.ReferenceIdeal.Read Idealize.ShloMosaic Idealize.ShloMosaic.TcCoe Idealize.SL.Sem

variable (x : FVec Ideal S8x4096x1024 .f32) (g : FVec Ideal S2x1024 .f32) (w : FVec Ideal S1x1024x2560 .f32) (lg lb : FVec Ideal S1x512 .f32)
  (sp : FVec Ideal S1x4x128x128 .f32) (bs : FVec Ideal S1x4x128 .f32) (cw : FVec Ideal S1x3x512 .f32) (wo : FVec Ideal S1x1024x1024 .f32)

/-- The normalised row. -/
theorem h_at (b : Fin 8) (s : Fin 4096) (k : Fin 1024) :
    val_main_v14 (F := Ideal) x g (ix3 b s k) = Rows.rms (fun j => x (ix3 b s j)) (fun j => g (ix2 0 j)) k := by
  unfold Rows.rms
  pointwise [val_main_v14, val_main_v13, val_main_v12, val_main_v1, val_main_v0, val_main_v11, val_main_v10, val_main_v9, val_main_v8, val_main_v7, val_main_cst_1, val_main_v6, val_main_v5, val_main_cst_0, val_main_v4, val_main_v3, val_main_v2, val_main_cst]

/-- The normalised row as a function of its entry. -/
abbrev hrow (b : Fin 8) (s : Fin 4096) : Fin 1024 → EReal := Rows.rms (fun j => x (ix3 b s j)) (fun j => g (ix2 0 j))

/-- The projection. -/
theorem p_at (b : Fin 8) (s : Fin 4096) (f : Fin 2560) :
    val_main_v22 (F := Ideal) x g w (ix3 b s f) = Rows.lin (hrow x g b s) (fun j f => w (ix3 0 j f)) f := by
  unfold Rows.lin
  have h := h_at x g b s
  unfold val_main_v22
  generalize val_main_v14 (F := Ideal) x g = H at h
  simp only [← h]
  pointwise [val_main_v15]

/-- The gate's plain half. -/
theorem u_at (b : Fin 8) (s : Fin 4096) (a : Fin 512) :
    val_main_v35 (F := Ideal) x g w (ix3 b s a) = Rows.gelu (Rows.lin (hrow x g b s) (fun j f => w (ix3 0 j f)) ⟨a.val, by omega⟩) := by
  unfold Rows.gelu
  rw [← p_at]
  unfold val_main_v35 val_main_v34 val_main_v32 val_main_v31 val_main_v29 val_main_v23
  generalize val_main_v22 (F := Ideal) x g w = H
  pointwise [val_main_v33, val_main_cst_4, val_main_v30, val_main_cst_3, val_main_v28, val_main_cst_2]

theorem v_at (b : Fin 8) (s : Fin 4096) (a : Fin 512) :
    val_main_v43 (F := Ideal) x g w (ix3 b s a) = Rows.gelu (Rows.lin (hrow x g b s) (fun j f => w (ix3 0 j f)) ⟨512 + a.val, by omega⟩) := by
  unfold Rows.gelu
  rw [← p_at]
  unfold val_main_v43 val_main_v42 val_main_v40 val_main_v39 val_main_v37 val_main_v24
  generalize val_main_v22 (F := Ideal) x g w = H
  pointwise [val_main_v41, val_main_cst_7, val_main_v38, val_main_cst_6, val_main_v36, val_main_cst_5]

/-- The gate's normalised half. -/
theorem n_at (b : Fin 8) (s : Fin 4096) (a : Fin 512) :
    val_main_v65 (F := Ideal) x g w lg lb (ix3 b s a)
      = Rows.gated (hrow x g b s) (fun j f => w (ix3 0 j f)) (fun a => lg (ix2 0 a)) (fun a => lb (ix2 0 a)) a := by
  unfold Rows.gated Rows.lnorm Rows.mean
  have h := v_at x g w b s
  simp only [← h]
  unfold val_main_v65 val_main_v62 val_main_v59 val_main_v58 val_main_v57 val_main_v56 val_main_v54 val_main_v52 val_main_v51 val_main_v50
    val_main_v49 val_main_v48 val_main_v47 val_main_v45 val_main_v44
  generalize val_main_v43 (F := Ideal) x g w = H
  pointwise [val_main_v64, val_main_v63, val_main_v61, val_main_v60, val_main_v55, val_main_v53, val_main_v46, val_main_v17, val_main_v16, val_main_cst_12, val_main_cst_11, val_main_cst_10, val_main_cst_9, val_main_cst_8]

/-- The spatial gate before its product with the plain half. -/
theorem m_at (b : Fin 8) (s : Fin 4096) (a : Fin 512) :
    val_main_v73 (F := Ideal) x g w lg lb sp bs (ix3 b s a)
      = (∑ j : Fin 128, sp (ix4 0 ⟨a.val / 128, by omega⟩ ⟨s.val % 128, by omega⟩ j)
          * Rows.gated (hrow x g b ⟨128 * (s.val / 128) + j.val, by omega⟩) (fun j f => w (ix3 0 j f)) (fun a => lg (ix2 0 a)) (fun a => lb (ix2 0 a)) a)
        + bs (ix3 0 ⟨a.val / 128, by omega⟩ ⟨s.val % 128, by omega⟩) := by
  have h := fun s' => n_at x g w lg lb b s' a
  simp only [← h]
  rw [val_main_v73_apply, val_main_v72_apply, val_main_v68_apply, val_main_v67_apply]
  refine congrArg₂ (· + ·) (Finset.sum_congr rfl fun j _ => ?_) ?_
  · rw [val_main_v66_apply, mul_comm]
    refine congrArg₂ (· * ·) ?_ ?_
    · generalize val_main_v65 (F := Ideal) x g w lg lb = Y
      have e : ridx_main_v67 (idx_main_v68 (idx_main_v73 (ix3 b s a))) j = ix3 ⟨a.val / 128, by omega⟩ ⟨s.val % 128, by omega⟩ j := by
        funext d
        apply Fin.ext
        match d with
        | ⟨0, _⟩ => simp; omega
        | ⟨1, _⟩ => simp; omega
        | ⟨2, _⟩ => rfl
      rw [e]
      pointwise [val_main_v18]
    · generalize val_main_v65 (F := Ideal) x g w lg lb = Y
      refine congrArg Y (funext fun d => Fin.ext ?_)
      match d with
      | ⟨0, _⟩ => simp; omega
      | ⟨1, _⟩ => simp; omega
      | ⟨2, _⟩ => simp; omega
  · rw [val_main_v71_apply, val_main_v70_apply, val_main_v69_apply]
    have e : idx_main_v69 (idx_main_v70 (idx_main_v71 (idx_main_v73 (ix3 b s a)))) = ix2 ⟨a.val / 128, by omega⟩ ⟨s.val % 128, by omega⟩ := by
      funext d
      apply Fin.ext
      match d with
      | ⟨0, _⟩ => simp; omega
      | ⟨1, _⟩ => simp; omega
    rw [e]
    pointwise [val_main_v19]

/-- The product the convolution runs over. -/
theorem z_at (b : Fin 8) (s : Fin 4096) (a : Fin 512) :
    val_main_v75 (F := Ideal) x g w (ix3 b s a) = Rows.prod (hrow x g b s) (fun j f => w (ix3 0 j f)) a := by
  unfold Rows.prod
  rw [← p_at, ← p_at]
  unfold val_main_v75 val_main_v26 val_main_v27
  generalize val_main_v22 (F := Ideal) x g w = H
  pointwise

/-- The word zero read as a number. -/
theorem word_zero : FloatOps.sitofp (F := Ideal) FTy.f32 0#32 = (0 : EReal) := by
  show (((0#32).toInt : ℝ) : EReal) = 0
  simp

/-- The convolution's half. -/
theorem c_at (b : Fin 8) (s : Fin 4096) (a : Fin 512) :
    val_main_v97 (F := Ideal) x g w cw (ix3 b s a)
      = Rows.short (hrow x g b s)
          (fun a => if hs : s.val = 0 then 0 else Rows.prod (hrow x g b ⟨s.val - 1, by omega⟩) (fun j f => w (ix3 0 j f)) a)
          (fun a => if hs : s.val = 4095 then 0 else Rows.prod (hrow x g b ⟨s.val + 1, by omega⟩) (fun j f => w (ix3 0 j f)) a)
          (fun j f => w (ix3 0 j f)) (fun t a => cw (ix3 0 t a)) a := by
  unfold Rows.short
  have hz := fun s' => z_at x g w b s' a
  simp only [← hz]
  rw [← p_at]
  unfold val_main_v97 val_main_v96 val_main_v95 val_main_v89 val_main_v88 val_main_v82 val_main_v90 val_main_v83 val_main_v77 val_main_v76 val_main_v25
  generalize val_main_v75 (F := Ideal) x g w = Z
  generalize val_main_v22 (F := Ideal) x g w = H
  pointwise [val_main_call0_v0, val_main_c, val_main_v94, val_main_v93, val_main_v92, val_main_v91, val_main_v87, val_main_v86, val_main_v85, val_main_v84, val_main_v81, val_main_v80, val_main_v79, val_main_v78, val_main_v20]
  rw [word_zero]
  refine congrArg₂ (· * ·) rfl (congrArg₂ (· + ·) (congrArg₂ (· + ·) (congrArg₂ (· * ·) ?_ rfl) rfl) (congrArg₂ (· * ·) ?_ rfl))
  · by_cases hs : s.val = 0
    · rw [dif_neg (by omega), dif_pos hs]
    · rw [dif_pos (by omega), dif_neg hs]
  · by_cases hs : s.val = 4095
    · rw [dif_neg (by omega), dif_pos hs]
    · rw [dif_pos (by omega), dif_neg hs]
      exact congrArg Z (congrArg (ix3 b · a) (Fin.ext (by show 2 + s.val - 1 = s.val + 1; omega)))

/-- The layer's result at one row. -/
theorem out_at (b : Fin 8) (s : Fin 4096) (r : Fin 32768) (hr : r.val = 4096 * b.val + s.val) (k : Fin 1024) :
    val_main_v101 (F := Ideal) x g w lg lb sp bs cw wo (ix2 r k)
      = Rows.mixer (fun s j => x (ix3 b s j)) (fun j => g (ix2 0 j)) (fun j f => w (ix3 0 j f)) (fun a => lg (ix2 0 a)) (fun a => lb (ix2 0 a))
          (fun p i j => sp (ix4 0 p i j)) (fun p i => bs (ix3 0 p i)) (fun t a => cw (ix3 0 t a)) (fun j k => wo (ix3 0 j k)) s k := by
  unfold Rows.mixer
  rw [val_main_v101_apply]
  have hi : idx_main_v101 (ix2 r k) = ix3 b s k := by
    funext a
    apply Fin.ext
    match a with
    | ⟨0, _⟩ => show (r.val * 1024 + k.val) / 4194304 = b.val; omega
    | ⟨1, _⟩ => show (r.val * 1024 + k.val) / 1024 % 4096 = s.val; omega
    | ⟨2, _⟩ => show (r.val * 1024 + k.val) % 1024 = k.val; omega
  rw [hi]
  have hc := c_at x g w cw b s
  have hg : ∀ a, val_main_v74 (F := Ideal) x g w lg lb sp bs (ix3 b s a) = _ := fun a =>
    (val_main_v74_apply (F := Ideal) x g w lg lb sp bs (ix3 b s a)).trans (congrArg₂ (· * ·) (u_at x g w b s a) (m_at x g w lg lb sp bs b s a))
  rw [val_main_v100_apply]
  refine congrArg₂ (· + ·) rfl ?_
  unfold val_main_v99 val_main_v98
  generalize val_main_v97 (F := Ideal) x g w cw = C at hc
  generalize val_main_v74 (F := Ideal) x g w lg lb sp bs = G at hg
  have e : ∀ c : Fin 1024, Rows.both (fun a => G (ix3 b s a)) (fun a => C (ix3 b s a)) c * wo (ix3 0 c k) = _ := fun c =>
    congrArg (· * wo (ix3 0 c k)) (congrArg₂ (fun p q => Rows.both p q c) (funext hg) (funext hc))
  refine Eq.trans ?_ (Finset.sum_congr rfl fun c _ => e c)
  unfold Rows.both
  pointwise [val_main_v21]

end Cert.ReferenceIdeal.MixRef

end
-- ==== Proof.MixArray.lean ====
/- The even layer's result arrays: every grid point writes its own block, so each array is the reference's result. -/
module

public import proofs.«01_k».proof.Proof.MixBlock
public import proofs.«01_k».proof.Proof.MixRef
public import Idealize.ShloMosaic.Lib.Claim

@[expose] public section

set_option maxRecDepth 16384

noncomputable section

namespace Cert.KernelIdeal.MixValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every window's block index, at all grid points. -/
theorem idx : ∀ t : Fin cfg0.N, win0_0.index t = ![t.val, 0] ∧ win0_1.index t = ![64 * t.val - 1, 0] ∧ win0_2.index t = ![min (64 * (t.val + 1)) 2047, 0]
    ∧ win0_3.index t = ![0, 0] ∧ win0_4.index t = ![0, 0] ∧ win0_5.index t = ![0, 0] ∧ win0_6.index t = ![0, 0] ∧ win0_7.index t = ![0, 0, 0]
    ∧ win0_8.index t = ![0, 0, 0] ∧ win0_9.index t = ![0, 0] ∧ win0_10.index t = ![0, 0] ∧ win0_11.index t = ![0, t.val, 0] ∧ win0_12.index t = ![0, t.val, 0]
    ∧ win0_13.index t = ![0, t.val / 2, 0] ∧ win0_14.index t = ![t.val, 0] ∧ win0_15.index t = ![0, t.val, 0] ∧ win0_16.index t = ![0, t.val, 0]
    ∧ win0_17.index t = ![0, t.val / 2, 0] :=
  (by decide +kernel : ∀ t : Fin grid0.N, _)

theorem blk0 (c : Dev nD) (t : Fin cfg0.N) (r k : Fin 1024) (b : Fin 8) (s : Fin 4096) (hr : 1024 * t.val + r.val = 4096 * b.val + s.val) :
    (iblk m c 0 t : Vec Ideal S1024x1024 .f32) (ix2 r k) = m ((c : Thread nD τ).loc main_arg0) (ix3 b s k) := by
  blk_simp [iblk, idx t]
  entry_read
  pointwise
  blk_ext [idx t]

theorem blk1 (c : Dev nD) (t : Fin cfg0.N) (k : Fin 1024) (b : Fin 8) (s : Fin 4096) (hr : 1024 * t.val = 4096 * b.val + s.val + 1) :
    (iblk m c 1 t : Vec Ideal S16x1024 .f32) (ix2 15 k) = m ((c : Thread nD τ).loc main_arg0) (ix3 b s k) := by
  blk_simp [iblk, idx t]
  entry_read
  pointwise
  blk_ext [idx t]

theorem blk2 (c : Dev nD) (t : Fin cfg0.N) (k : Fin 1024) (b : Fin 8) (s : Fin 4096) (hr : 1024 * t.val + 1024 = 4096 * b.val + s.val) :
    (iblk m c 2 t : Vec Ideal S16x1024 .f32) (ix2 0 k) = m ((c : Thread nD τ).loc main_arg0) (ix3 b s k) := by
  blk_simp [iblk, idx t]
  entry_read
  pointwise
  blk_ext [idx t]

theorem blk3 (c : Dev nD) (t : Fin cfg0.N) (k : Fin 1024) :
    (iblk m c 3 t : Vec Ideal S1x1024 .f32) (ix2 0 k) = m ((c : Thread nD τ).loc main_arg1) (ix2 0 k) := by
  blk_simp [iblk, idx t]
  entry_read
  pointwise
  blk_ext [idx t]

theorem blk4 (c : Dev nD) (t : Fin cfg0.N) (k : Fin 1024) (f : Fin 2560) :
    (iblk m c 4 t : Vec Ideal S1024x2560 .bf16) (ix2 k f) = m ((c : Thread nD τ).loc main_arg2) (ix3 0 k f) := by
  blk_simp [iblk, idx t]
  entry_read
  pointwise
  blk_ext [idx t]

theorem blk5 (c : Dev nD) (t : Fin cfg0.N) (a : Fin 512) :
    (iblk m c 5 t : Vec Ideal S1x512 .f32) (ix2 0 a) = m ((c : Thread nD τ).loc main_arg3) (ix2 0 a) := by
  blk_simp [iblk, idx t]
  entry_read
  pointwise
  blk_ext [idx t]

theorem blk6 (c : Dev nD) (t : Fin cfg0.N) (a : Fin 512) :
    (iblk m c 6 t : Vec Ideal S1x512 .f32) (ix2 0 a) = m ((c : Thread nD τ).loc main_arg4) (ix2 0 a) := by
  blk_simp [iblk, idx t]
  entry_read
  pointwise
  blk_ext [idx t]

theorem blk7 (c : Dev nD) (t : Fin cfg0.N) (p : Fin 4) (i j : Fin 128) :
    (iblk m c 7 t : Vec Ideal S4x128x128 .bf16) (ix3 p i j) = m ((c : Thread nD τ).loc main_arg5) (ix4 0 p i j) := by
  blk_simp [iblk, idx t]
  entry_read
  pointwise
  blk_ext [idx t]

theorem blk8 (c : Dev nD) (t : Fin cfg0.N) (p : Fin 4) (i : Fin 128) :
    (iblk m c 8 t : Vec Ideal S4x128x1 .f32) (ix3 p i 0) = m ((c : Thread nD τ).loc main_arg6) (ix3 0 p i) := by
  blk_simp [iblk, idx t]
  entry_read
  pointwise
  blk_ext [idx t]

theorem blk9 (c : Dev nD) (t : Fin cfg0.N) (q : Fin 3) (a : Fin 512) :
    (iblk m c 9 t : Vec Ideal S3x512 .f32) (ix2 q a) = m ((c : Thread nD τ).loc main_arg7) (ix3 0 q a) := by
  blk_simp [iblk, idx t]
  entry_read
  pointwise
  blk_ext [idx t]

theorem blk10 (c : Dev nD) (t : Fin cfg0.N) (j k : Fin 1024) :
    (iblk m c 10 t : Vec Ideal S1024x1024 .bf16) (ix2 j k) = m ((c : Thread nD τ).loc main_arg8) (ix3 0 j k) := by
  blk_simp [iblk, idx t]
  entry_read
  pointwise
  blk_ext [idx t]

section rows

variable (x0 : Vec Ideal S1024x1024 .f32) (x1 x2 : Vec Ideal S16x1024 .f32) (x3 : Vec Ideal S1x1024 .f32) (v : BitVec 32)

theorem row_in (q : Fin 1056) (r : Fin 1024) (hq : q.val = 16 + r.val) : row (hs x0 x1 x2 x3 v) q = Rows.rms (fun j => x0 (ix2 r j)) (fun j => x3 (ix2 0 j)) := by
  funext k
  rw [show q = ⟨16 + r.val, by omega⟩ from Fin.ext hq]
  show hs x0 x1 x2 x3 v (ix2 _ k) = _
  rw [hs_at]
  unfold rows
  rw [dif_neg (by show ¬(16 + r.val < 16); omega), dif_pos (by show 16 + r.val < 1040; omega)]
  simp only [Nat.add_sub_cancel_left]

theorem row_before (q : Fin 1056) (hq : q.val = 15) (k : Fin 1024) :
    row (hs x0 x1 x2 x3 v) q k = if v = 0#32 then 0 else Rows.rms (fun j => x1 (ix2 15 j)) (fun j => x3 (ix2 0 j)) k := by
  obtain rfl : q = 15 := Fin.ext hq
  show hs x0 x1 x2 x3 v (ix2 _ k) = _
  rw [hs_at]
  rfl

theorem row_after (q : Fin 1056) (hq : q.val = 1040) (k : Fin 1024) :
    row (hs x0 x1 x2 x3 v) q k = if v = 3#32 then 0 else Rows.rms (fun j => x2 (ix2 0 j)) (fun j => x3 (ix2 0 j)) k := by
  obtain rfl : q = 1040 := Fin.ext hq
  show hs x0 x1 x2 x3 v (ix2 _ k) = _
  rw [hs_at]
  rfl

end rows

theorem pos_zero (t : Fin cfg0.N) : pos t = 0#32 ↔ t.val % 4 = 0 := by
  rw [pos_eq]
  have h : t.val % 4 < 4 := by omega
  generalize t.val % 4 = n at h ⊢
  interval_cases n <;> decide

theorem pos_three (t : Fin cfg0.N) : pos t = 3#32 ↔ t.val % 4 = 3 := by
  rw [pos_eq]
  have h : t.val % 4 < 4 := by omega
  generalize t.val % 4 = n at h ⊢
  interval_cases n <;> decide

/-- What a grid point leaves in row `r` of its block is row `1024 t + r` of the reference's result. -/
theorem point (c : Dev nD) (t : Fin cfg0.N) (r k : Fin 1024) (q : Fin 32768) (hq : q.val = 1024 * t.val + r.val) :
    (outsAt0 m c t).1 (ix2 r k) = Cert.ReferenceIdeal.Read.val_main_v101 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (ix2 q k) := by
  have ht : t.val < 32 := lt_of_lt_of_eq t.isLt (by decide +kernel : grid0.N = 32)
  obtain ⟨b, hb⟩ : ∃ b : Fin 8, b.val = q.val / 4096 := ⟨⟨q.val / 4096, by omega⟩, rfl⟩
  obtain ⟨s, hs'⟩ : ∃ s : Fin 4096, s.val = q.val % 4096 := ⟨⟨q.val % 4096, by omega⟩, rfl⟩
  have hqe : q.val = 4096 * b.val + s.val := by omega
  refine (out_at _ _ _ _ _ _ _ _ _ _ _ m c t r k rfl rfl rfl rfl rfl rfl rfl rfl rfl rfl rfl).trans ?_
  refine Eq.trans ?_ (Cert.ReferenceIdeal.MixRef.out_at _ _ _ _ _ _ _ _ _ b s q hqe k).symm
  have e0 := fun (r' : Fin 1024) (s' : Fin 4096) (h : 1024 * t.val + r'.val = 4096 * b.val + s'.val) j => blk0 m c t r' j b s' h
  have e3 := blk3 m c t
  have e4 := blk4 m c t
  have e5 := blk5 m c t
  have e6 := blk6 m c t
  have e7 := blk7 m c t
  have e8 := blk8 m c t
  have e9 := blk9 m c t
  have e10 := blk10 m c t
  have hin : ∀ (q' : Fin 1056) (r' : Fin 1024) (s' : Fin 4096), q'.val = 16 + r'.val → 1024 * t.val + r'.val = 4096 * b.val + s'.val →
      row (hs (iblk m c 0 t) (iblk m c 1 t) (iblk m c 2 t) (iblk m c 3 t) (pos t)) q'
        = Rows.rms (fun j => m ((c : Thread nD τ).loc main_arg0) (ix3 b s' j)) (fun j => m ((c : Thread nD τ).loc main_arg1) (ix2 0 j)) := by
    intro q' r' s' h1 h2
    rw [row_in _ _ _ _ _ q' r' h1]
    simp only [e0 r' s' h2, e3]
  have hb' : row (hs (iblk m c 0 t) (iblk m c 1 t) (iblk m c 2 t) (iblk m c 3 t) (pos t)) ⟨16 + r.val, by omega⟩ = _ := hin _ r s rfl (by omega)
  have hc : (fun j : Fin 128 => row (hs (iblk m c 0 t) (iblk m c 1 t) (iblk m c 2 t) (iblk m c 3 t) (pos t)) ⟨16 + (128 * (r.val / 128) + j.val), by omega⟩)
      = fun j => Rows.rms (fun i => m ((c : Thread nD τ).loc main_arg0) (ix3 b ⟨128 * (s.val / 128) + j.val, by omega⟩ i)) (fun j => m ((c : Thread nD τ).loc main_arg1) (ix2 0 j)) := by
    funext j
    exact hin _ ⟨128 * (r.val / 128) + j.val, by omega⟩ _ rfl (by show 1024 * t.val + (128 * (r.val / 128) + j.val) = 4096 * b.val + (128 * (s.val / 128) + j.val); omega)
  have hp : Rows.prod (row (hs (iblk m c 0 t) (iblk m c 1 t) (iblk m c 2 t) (iblk m c 3 t) (pos t)) ⟨15 + r.val, by omega⟩) (win (iblk m c 4 t))
      = fun a => if h : s.val = 0 then 0 else
        Rows.prod (Rows.rms (fun j => m ((c : Thread nD τ).loc main_arg0) (ix3 b ⟨s.val - 1, by omega⟩ j)) (fun j => m ((c : Thread nD τ).loc main_arg1) (ix2 0 j))) (win (iblk m c 4 t)) a := by
    funext a
    by_cases h : s.val = 0
    · rw [dif_pos h]
      refine Rows.prod_zero _ (fun j => ?_) _ _
      rw [row_before _ _ _ _ _ _ (by show 15 + r.val = 15; omega), if_pos ((pos_zero t).mpr (by omega))]
    · rw [dif_neg h]
      by_cases h' : r.val = 0
      · refine congrArg (fun z => Rows.prod z (win (iblk m c 4 t)) a) (funext fun j => ?_)
        rw [row_before _ _ _ _ _ _ (by show 15 + r.val = 15; omega), if_neg (fun e => h (by have := (pos_zero t).mp e; omega))]
        simp only [e3, fun j => blk1 m c t j b ⟨s.val - 1, by omega⟩ (by show 1024 * t.val = 4096 * b.val + (s.val - 1) + 1; omega)]
      · rw [hin _ ⟨r.val - 1, by omega⟩ ⟨s.val - 1, by omega⟩ (by show 15 + r.val = 16 + (r.val - 1); omega) (by show 1024 * t.val + (r.val - 1) = 4096 * b.val + (s.val - 1); omega)]
  have hn : Rows.prod (row (hs (iblk m c 0 t) (iblk m c 1 t) (iblk m c 2 t) (iblk m c 3 t) (pos t)) ⟨17 + r.val, by omega⟩) (win (iblk m c 4 t))
      = fun a => if h : s.val = 4095 then 0 else
        Rows.prod (Rows.rms (fun j => m ((c : Thread nD τ).loc main_arg0) (ix3 b ⟨s.val + 1, by omega⟩ j)) (fun j => m ((c : Thread nD τ).loc main_arg1) (ix2 0 j))) (win (iblk m c 4 t)) a := by
    funext a
    by_cases h : s.val = 4095
    · rw [dif_pos h]
      refine Rows.prod_zero _ (fun j => ?_) _ _
      rw [row_after _ _ _ _ _ _ (by show 17 + r.val = 1040; omega), if_pos ((pos_three t).mpr (by omega))]
    · rw [dif_neg h]
      by_cases h' : r.val = 1023
      · refine congrArg (fun z => Rows.prod z (win (iblk m c 4 t)) a) (funext fun j => ?_)
        rw [row_after _ _ _ _ _ _ (by show 17 + r.val = 1040; omega), if_neg (fun e => h (by have := (pos_three t).mp e; omega))]
        simp only [e3, fun j => blk2 m c t j b ⟨s.val + 1, by omega⟩ (by show 1024 * t.val + 1024 = 4096 * b.val + (s.val + 1); omega)]
      · rw [hin _ ⟨r.val + 1, by omega⟩ ⟨s.val + 1, by omega⟩ (by show 17 + r.val = 16 + (r.val + 1); omega) (by show 1024 * t.val + (r.val + 1) = 4096 * b.val + (s.val + 1); omega)]
  have hm : r.val % 128 = s.val % 128 := by omega
  unfold Rows.mixer mid
  have hw : win (iblk m c 4 t) = fun j f => m ((c : Thread nD τ).loc main_arg2) (ix3 0 j f) := funext fun j => funext fun f => e4 j f
  rw [hp, hn, hb', hc, hw]
  simp only [e0 r s (by omega), e5, e6, e7, e8, e9, e10, hm]

/-- The mixed rows after the run are the reference's. -/
theorem final14 (c : Dev nD) : (dats m 0 c).arrAt 14 (cfgs 0).N
    = Cert.ReferenceIdeal.Read.val_main_v101 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]
  obtain ⟨r, k, rfl⟩ : ∃ (r k : Fin 1024), y = ix2 r k := ⟨y 0, y 1, funext fun i => by fin_cases i <;> rfl⟩
  have ht : t.val < 32 := lt_of_lt_of_eq t.isLt (by decide +kernel : grid0.N = 32)
  refine (point m c t r k ⟨1024 * t.val + r.val, by omega⟩ rfl).trans ?_
  blk_ext [idx t]

/-- The gate's weights after the run are the arguments. -/
theorem final15 (c : Dev nD) : (dats m 0 c).arrAt 15 (cfgs 0).N
    = Cert.ReferenceIdeal.Read.val_main_v102 (F := Ideal) (m ((c : Thread nD τ).loc main_arg9)) := by
  refine (dats m 0 c).arrAt_eq_of_covers 15 _ (by decide +kernel) fun t _ y => ?_
  blk_simp
  rw [after0_15]
  obtain ⟨a, r, k, rfl⟩ : ∃ (a : Fin 2) (r : Fin 32) (k : Fin 2816), y = ix3 a r k := ⟨y 0, y 1, y 2, funext fun i => by fin_cases i <;> rfl⟩
  unfold outsAt0
  frame_out
  pointwise [k0_pay2, Cert.ReferenceIdeal.Read.val_main_v102]
  blk_simp [iblk, idx t]
  entry_read
  pointwise
  blk_ext [idx t]

/-- The other projection's weights after the run are the arguments. -/
theorem final16 (c : Dev nD) : (dats m 0 c).arrAt 16 (cfgs 0).N
    = Cert.ReferenceIdeal.Read.val_main_v103 (F := Ideal) (m ((c : Thread nD τ).loc main_arg10)) := by
  refine (dats m 0 c).arrAt_eq_of_covers 16 _ (by decide +kernel) fun t _ y => ?_
  blk_simp
  rw [after0_16]
  obtain ⟨a, r, k, rfl⟩ : ∃ (a : Fin 2) (r : Fin 32) (k : Fin 2816), y = ix3 a r k := ⟨y 0, y 1, y 2, funext fun i => by fin_cases i <;> rfl⟩
  unfold outsAt0
  frame_out
  pointwise [k0_pay3, Cert.ReferenceIdeal.Read.val_main_v103]
  blk_simp [iblk, idx t]
  entry_read
  pointwise
  blk_ext [idx t]

/-- The down projection's weights after the run are the arguments. -/
theorem final17 (c : Dev nD) : (dats m 0 c).arrAt 17 (cfgs 0).N
    = Cert.ReferenceIdeal.Read.val_main_v104 (F := Ideal) (m ((c : Thread nD τ).loc main_arg11)) := by
  refine (dats m 0 c).arrAt_eq_of_covers 17 _ (by decide +kernel) fun t _ y => ?_
  blk_simp
  rw [after0_17]
  obtain ⟨a, r, k, rfl⟩ : ∃ (a : Fin 2) (r : Fin 176) (k : Fin 1024), y = ix3 a r k := ⟨y 0, y 1, y 2, funext fun i => by fin_cases i <;> rfl⟩
  unfold outsAt0
  frame_out
  pointwise [k0_pay4, Cert.ReferenceIdeal.Read.val_main_v104]
  blk_simp [iblk, idx t]
  entry_read
  pointwise
  blk_ext [idx t]

end Cert.KernelIdeal.MixValue

end
-- ==== Proof.MixClaim.lean ====
/- The even layer's value claim. -/
module

public import proofs.«01_k».proof.Defs
public import proofs.«01_k».proof.Proof.MixArray
public import Idealize.ShloMosaic.Lib.Claim

@[expose] public section

set_option maxRecDepth 16384

noncomputable section

namespace Cert.Proof

open Idealize.ShloMosaic Idealize.SL.Sem

set_option maxHeartbeats 2000000 in
/-- The even layer's kernel and its reference leave the same four arrays, whatever the arguments. -/
theorem mix_algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    · exact hc.1 16
    · exact hc.1 17
  · run_from Cert.ReferenceIdeal.Value.run m' g'
    · rw [Cert.ReferenceIdeal.Read.val_main_v101_eq, (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1]
      exact (Cert.KernelIdeal.MixValue.final14 m c).symm
    · exact (Cert.KernelIdeal.MixValue.final15 m c).symm
    · exact (Cert.KernelIdeal.MixValue.final16 m c).symm
    · exact (Cert.KernelIdeal.MixValue.final17 m c).symm

end Cert.Proof

end
-- ==== Proof.QkvBlock.lean ====
/- The query, key and value projections, one grid point: what the body leaves in its three output blocks, entry by entry.
   Queries and values are stored transposed, 128 positions at a time, keys row by row. -/
module

public import proofs.«01_k».proof.Proof.Gen.Kernel4Ideal.Value
public import proofs.«01_k».proof.Proof.Rows
public import Idealize.ShloMosaic.Lib.Pipeline.ValueKit
public import Idealize.ShloMosaic.Lib.Pipeline.ReadBack

@[expose] public section

set_option maxRecDepth 16384

noncomputable section

namespace Cert.Kernel4Ideal.QkvValue

open Cert.Kernel4Ideal Cert.Kernel4Ideal.Gen Idealize.ShloMosaic Idealize.ShloMosaic.TcCoe Idealize.SL.Sem
open Idealize.ShloMosaic.Pipeline (Dat)

variable (x0 : Vec Ideal S2048x1024 .f32) (x1 : Vec Ideal S1x1024 .f32) (x2 : Vec Ideal S1280x1024 .bf16) (x3 : Vec Ideal S1024x256 .bf16)

/-- The factor the scores carry, as the body rounds it. -/
abbrev factor : EReal := Ideal.ofBits FTy.f32 0x3E38AA3B#32

theorem hid_at (r : Fin 2048) (k : Fin 1024) : k0_pay3 (F := Ideal) x0 x1 (ix2 r k) = Rows.rms (fun j => x0 (ix2 r j)) (fun j => x1 (ix2 0 j)) k := by
  unfold Rows.rms
  pointwise [k0_pay3]

/-- Entry `e` of row `r`'s projection, kept transposed. -/
theorem mat_at (e : Fin 1280) (r : Fin 2048) : k0_pay4 (F := Ideal) x0 x1 x2 (ix2 e r)
    = Rows.lin (Rows.rms (fun j => x0 (ix2 r j)) (fun j => x1 (ix2 0 j))) (fun j e => x2 (ix2 e j)) e := by
  have h := hid_at x0 x1 r
  unfold k0_pay4 Rows.lin
  generalize k0_pay3 (F := Ideal) x0 x1 = H at h
  simp only [← h, mul_comm (H _)]
  pointwise

/-- The query block as one function of the projections. -/
abbrev queries (M : FVec Ideal S1280x2048 .f32) : Vec Ideal S16x1024x128 .bf16 :=
  fun y => M (ix2 ⟨(y 1).val, lt_trans (y 1).isLt (by decide)⟩ ⟨128 * (y 0).val + (y 2).val, by have h0 : (y 0).val < 16 := (y 0).isLt; have h2 : (y 2).val < 128 := (y 2).isLt; omega⟩) * factor

theorem query0 (x : S1x1024x128.Idx) : k0_pay5 (F := Ideal) x0 x1 x2 x = queries (k0_pay4 (F := Ideal) x0 x1 x2) (r0_3.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  unfold k0_pay5
  generalize k0_pay4 (F := Ideal) x0 x1 x2 = M
  refine Eq.trans (b := M (ix2 ⟨a.val, by omega⟩ ⟨0 + b.val, by omega⟩) * factor) ?_ (congrArg (· * factor) (congrArg M (funext fun i => Fin.ext ?_)))
  · pointwise
  · match i with
    | ⟨0, _⟩ => show a.val = 0 + 1 * a.val; omega
    | ⟨1, _⟩ => show 0 + b.val = 128 * (0 + 1 * 0) + (0 + 1 * b.val); omega

theorem query1 (x : S1x1024x128.Idx) : k0_pay8 (F := Ideal) (k0_pay7 (F := Ideal) x0 x1 x2) x = queries (k0_pay4 (F := Ideal) x0 x1 x2) (r0_5.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  unfold k0_pay8 k0_pay7
  generalize k0_pay4 (F := Ideal) x0 x1 x2 = M
  refine Eq.trans (b := M (ix2 ⟨a.val, by omega⟩ ⟨128 + b.val, by omega⟩) * factor) ?_ (congrArg (· * factor) (congrArg M (funext fun i => Fin.ext ?_)))
  · pointwise
  · match i with
    | ⟨0, _⟩ => show a.val = 0 + 1 * a.val; omega
    | ⟨1, _⟩ => show 128 + b.val = 128 * (1 + 1 * 0) + (0 + 1 * b.val); omega

theorem query2 (M : FVec Ideal S1280x2048 .f32) (x : S1x1024x128.Idx) : k0_pay10 (F := Ideal) M x = queries M (r0_7.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨256 + b.val, by omega⟩) * factor) ?_ (congrArg (· * factor) (congrArg M (funext fun i => Fin.ext ?_)))
  · pointwise [k0_pay10]
  · match i with
    | ⟨0, _⟩ => show a.val = 0 + 1 * a.val; omega
    | ⟨1, _⟩ => show 256 + b.val = 128 * (2 + 1 * 0) + (0 + 1 * b.val); omega

theorem query3 (M : FVec Ideal S1280x2048 .f32) (x : S1x1024x128.Idx) : k0_pay12 (F := Ideal) M x = queries M (r0_9.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨384 + b.val, by omega⟩) * factor) ?_ (congrArg (· * factor) (congrArg M (funext fun i => Fin.ext ?_)))
  · pointwise [k0_pay12]
  · match i with
    | ⟨0, _⟩ => show a.val = 0 + 1 * a.val; omega
    | ⟨1, _⟩ => show 384 + b.val = 128 * (3 + 1 * 0) + (0 + 1 * b.val); omega

theorem query4 (M : FVec Ideal S1280x2048 .f32) (x : S1x1024x128.Idx) : k0_pay15 (F := Ideal) (k0_pay14 (F := Ideal) M) x = queries M (r0_11.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨512 + b.val, by omega⟩) * factor) ?_ (congrArg (· * factor) (congrArg M (funext fun i => Fin.ext ?_)))
  · pointwise [k0_pay15, k0_pay14]
  · match i with
    | ⟨0, _⟩ => show a.val = 0 + 1 * a.val; omega
    | ⟨1, _⟩ => show 512 + b.val = 128 * (4 + 1 * 0) + (0 + 1 * b.val); omega

theorem query5 (M : FVec Ideal S1280x2048 .f32) (x : S1x1024x128.Idx) : k0_pay17 (F := Ideal) M x = queries M (r0_13.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨640 + b.val, by omega⟩) * factor) ?_ (congrArg (· * factor) (congrArg M (funext fun i => Fin.ext ?_)))
  · pointwise [k0_pay17]
  · match i with
    | ⟨0, _⟩ => show a.val = 0 + 1 * a.val; omega
    | ⟨1, _⟩ => show 640 + b.val = 128 * (5 + 1 * 0) + (0 + 1 * b.val); omega

theorem query6 (M : FVec Ideal S1280x2048 .f32) (x : S1x1024x128.Idx) : k0_pay19 (F := Ideal) M x = queries M (r0_15.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨768 + b.val, by omega⟩) * factor) ?_ (congrArg (· * factor) (congrArg M (funext fun i => Fin.ext ?_)))
  · pointwise [k0_pay19]
  · match i with
    | ⟨0, _⟩ => show a.val = 0 + 1 * a.val; omega
    | ⟨1, _⟩ => show 768 + b.val = 128 * (6 + 1 * 0) + (0 + 1 * b.val); omega

theorem query7 (M : FVec Ideal S1280x2048 .f32) (x : S1x1024x128.Idx) : k0_pay22 (F := Ideal) (k0_pay21 (F := Ideal) M) (Scalar.ofBits (F := Ideal) .f32 0x3E38AA3B#32) x = queries M (r0_17.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨896 + b.val, by omega⟩) * factor) ?_ (congrArg (· * factor) (congrArg M (funext fun i => Fin.ext ?_)))
  · pointwise [k0_pay22, k0_pay21]
  · match i with
    | ⟨0, _⟩ => show a.val = 0 + 1 * a.val; omega
    | ⟨1, _⟩ => show 896 + b.val = 128 * (7 + 1 * 0) + (0 + 1 * b.val); omega

theorem query8 (M : FVec Ideal S1280x2048 .f32) (x : S1x1024x128.Idx) : k0_pay24 (F := Ideal) M x = queries M (r0_19.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1024 + b.val, by omega⟩) * factor) ?_ (congrArg (· * factor) (congrArg M (funext fun i => Fin.ext ?_)))
  · pointwise [k0_pay24]
  · match i with
    | ⟨0, _⟩ => show a.val = 0 + 1 * a.val; omega
    | ⟨1, _⟩ => show 1024 + b.val = 128 * (8 + 1 * 0) + (0 + 1 * b.val); omega

theorem query9 (M : FVec Ideal S1280x2048 .f32) (x : S1x1024x128.Idx) : k0_pay26 (F := Ideal) M x = queries M (r0_21.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1152 + b.val, by omega⟩) * factor) ?_ (congrArg (· * factor) (congrArg M (funext fun i => Fin.ext ?_)))
  · pointwise [k0_pay26]
  · match i with
    | ⟨0, _⟩ => show a.val = 0 + 1 * a.val; omega
    | ⟨1, _⟩ => show 1152 + b.val = 128 * (9 + 1 * 0) + (0 + 1 * b.val); omega

theorem query10 (M : FVec Ideal S1280x2048 .f32) (x : S1x1024x128.Idx) : k0_pay28 (F := Ideal) M x = queries M (r0_23.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1280 + b.val, by omega⟩) * factor) ?_ (congrArg (· * factor) (congrArg M (funext fun i => Fin.ext ?_)))
  · pointwise [k0_pay28]
  · match i with
    | ⟨0, _⟩ => show a.val = 0 + 1 * a.val; omega
    | ⟨1, _⟩ => show 1280 + b.val = 128 * (10 + 1 * 0) + (0 + 1 * b.val); omega

theorem query11 (M : FVec Ideal S1280x2048 .f32) (x : S1x1024x128.Idx) : k0_pay30 (F := Ideal) M x = queries M (r0_25.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1408 + b.val, by omega⟩) * factor) ?_ (congrArg (· * factor) (congrArg M (funext fun i => Fin.ext ?_)))
  · pointwise [k0_pay30]
  · match i with
    | ⟨0, _⟩ => show a.val = 0 + 1 * a.val; omega
    | ⟨1, _⟩ => show 1408 + b.val = 128 * (11 + 1 * 0) + (0 + 1 * b.val); omega

theorem query12 (M : FVec Ideal S1280x2048 .f32) (x : S1x1024x128.Idx) : k0_pay32 (F := Ideal) M x = queries M (r0_27.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1536 + b.val, by omega⟩) * factor) ?_ (congrArg (· * factor) (congrArg M (funext fun i => Fin.ext ?_)))
  · pointwise [k0_pay32]
  · match i with
    | ⟨0, _⟩ => show a.val = 0 + 1 * a.val; omega
    | ⟨1, _⟩ => show 1536 + b.val = 128 * (12 + 1 * 0) + (0 + 1 * b.val); omega

theorem query13 (M : FVec Ideal S1280x2048 .f32) (x : S1x1024x128.Idx) : k0_pay35 (F := Ideal) M x = queries M (r0_29.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1664 + b.val, by omega⟩) * factor) ?_ (congrArg (· * factor) (congrArg M (funext fun i => Fin.ext ?_)))
  · pointwise [k0_pay35]
  · match i with
    | ⟨0, _⟩ => show a.val = 0 + 1 * a.val; omega
    | ⟨1, _⟩ => show 1664 + b.val = 128 * (13 + 1 * 0) + (0 + 1 * b.val); omega

theorem query14 (M : FVec Ideal S1280x2048 .f32) (x : S1x1024x128.Idx) : k0_pay37 (F := Ideal) M x = queries M (r0_31.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1792 + b.val, by omega⟩) * factor) ?_ (congrArg (· * factor) (congrArg M (funext fun i => Fin.ext ?_)))
  · pointwise [k0_pay37]
  · match i with
    | ⟨0, _⟩ => show a.val = 0 + 1 * a.val; omega
    | ⟨1, _⟩ => show 1792 + b.val = 128 * (14 + 1 * 0) + (0 + 1 * b.val); omega

theorem query15 (M : FVec Ideal S1280x2048 .f32) (x : S1x1024x128.Idx) : k0_pay39 (F := Ideal) M x = queries M (r0_33.idx x) := by
  obtain ⟨a, b, rfl⟩ : ∃ (a : Fin 1024) (b : Fin 128), x = ix3 0 a b := ⟨x 1, x 2, funext fun i => by fin_cases i <;> first | rfl | exact Fin.ext (by have h : (x 0).val < 1 := (x 0).isLt; show (x 0).val = 0; omega)⟩
  refine Eq.trans (b := M (ix2 ⟨a.val, by omega⟩ ⟨1920 + b.val, by omega⟩) * factor) ?_ (congrArg (· * factor) (congrArg M (funext fun i => Fin.ext ?_)))
  · pointwise [k0_pay39]
  · match i with
    | ⟨0, _⟩ => show a.val = 0 + 1 * a.val; omega
    | ⟨1, _⟩ => show 1920 + b.val = 128 * (15 + 1 * 0) + (0 + 1 * b.val); omega

/-- The query block. -/
theorem out4_at (y : S16x1024x128.Idx) : out0_4 (F := Ideal) x0 x1 x2 x3 y = queries (k0_pay4 (F := Ideal) x0 x1 x2) y := by
  have e0 : View.ld x0 r0_0 = x0 := View.ld_unit_zero (by funext i; fin_cases i <;> rfl) _ x0
  have e1 : View.ld x1 r0_1 = x1 := View.ld_unit_zero (by funext i; fin_cases i <;> rfl) _ x1
  have e2 : View.ld x2 r0_2 = x2 := View.ld_unit_zero (by funext i; fin_cases i <;> rfl) _ x2
  unfold out0_4 k0_pay41
  rw [e0, e1, e2]
  refine View.canon_apply_of_pieces (queries (k0_pay4 (F := Ideal) x0 x1 x2)) _ ?_ y (cover0_4 _ _ _ _ _ _ _ _ _ _ _ _ _ _ _ _ y)
  intro pc hpc
  rcases List.mem_cons.mp hpc with rfl | hpc
  · exact fun x => query15 _ x
  rcases List.mem_cons.mp hpc with rfl | hpc
  · exact fun x => query14 _ x
  rcases List.mem_cons.mp hpc with rfl | hpc
  · exact fun x => query13 _ x
  rcases List.mem_cons.mp hpc with rfl | hpc
  · exact fun x => query12 _ x
  rcases List.mem_cons.mp hpc with rfl | hpc
  · exact fun x => query11 _ x
  rcases List.mem_cons.mp hpc with rfl | hpc
  · exact fun x => query10 _ x
  rcases List.mem_cons.mp hpc with rfl | hpc
  · exact fun x => query9 _ x
  rcases List.mem_cons.mp hpc with rfl | hpc
  · exact fun x => query8 _ x
  rcases List.mem_cons.mp hpc with rfl | hpc
  · exact fun x => query7 _ x
  rcases List.mem_cons.mp hpc with rfl | hpc
  · exact fun x => query6 _ x
  rcases List.mem_cons.mp hpc with rfl | hpc
  · exact fun x => query5 _ x
  rcases List.mem_cons.mp hpc with rfl | hpc
  · exact fun x => query4 _ x
  rcases List.mem_cons.mp hpc with rfl | hpc
  · exact fun x => query3 _ x
  rcases List.mem_cons.mp hpc with rfl | hpc
  · exact fun x => query2 _ x
  rcases List.mem_cons.mp hpc with rfl | hpc
  · exact fun x => query1 x0 x1 x2 x
  rcases List.mem_cons.mp hpc with rfl | hpc
  · exact fun x => query0 x0 x1 x2 x
  nomatch hpc

/-- The key block. -/
theorem out5_at (r : Fin 2048) (k : Fin 256) : out0_5 (F := Ideal) x0 x1 x2 x3 (ix2 r k)
    = Rows.lin (Rows.rms (fun j => x0 (ix2 r j)) (fun j => x1 (ix2 0 j))) (fun j k => x3 (ix2 j k)) k := by
  have e0 : View.ld x0 r0_0 = x0 := View.ld_unit_zero (by funext i; fin_cases i <;> rfl) _ x0
  have e1 : View.ld x1 r0_1 = x1 := View.ld_unit_zero (by funext i; fin_cases i <;> rfl) _ x1
  have e3 : View.ld x3 r0_35 = x3 := View.ld_unit_zero (by funext i; fin_cases i <;> rfl) _ x3
  have h := hid_at x0 x1 r
  unfold out0_5 Rows.lin
  rw [e0, e1, e3]
  generalize k0_pay3 (F := Ideal) x0 x1 = H at h
  simp only [← h]
  canon_tiles x hx
  obtain ⟨a, b, rfl⟩ : ∃ (a : Fin 2048) (b : Fin 256), x = ix2 a b := ⟨x 0, x 1, funext fun i => by fin_cases i <;> rfl⟩
  obtain rfl : r = a := Fin.ext hx0
  obtain rfl : k = b := Fin.ext hx1
  pointwise [k0_pay2]

/-- The value block. -/
theorem out6_at (j : Fin 16) (e : Fin 256) (p : Fin 128) : out0_6 (F := Ideal) x0 x1 x2 x3 (ix3 j e p)
    = k0_pay4 (F := Ideal) x0 x1 x2 (ix2 ⟨1024 + e.val, by omega⟩ ⟨128 * j.val + p.val, by omega⟩) := by
  have e0 : View.ld x0 r0_0 = x0 := View.ld_unit_zero (by funext i; fin_cases i <;> rfl) _ x0
  have e1 : View.ld x1 r0_1 = x1 := View.ld_unit_zero (by funext i; fin_cases i <;> rfl) _ x1
  have e2 : View.ld x2 r0_2 = x2 := View.ld_unit_zero (by funext i; fin_cases i <;> rfl) _ x2
  unfold out0_6 k0_pay41
  rw [e0, e1, e2]
  refine (Value.canon6_eq x0 x1 x2 (ix3 j e p)).trans ?_
  refine congrArg (k0_pay4 (F := Ideal) x0 x1 x2) (funext fun i => Fin.ext ?_)
  match i with
  | ⟨0, _⟩ => show e.val + 1024 = 1024 + e.val; omega
  | ⟨1, _⟩ => show j.val * 128 + p.val = 128 * j.val + p.val; omega

end Cert.Kernel4Ideal.QkvValue

end
-- ==== Proof.QkvRef.lean ====
/- The projections' reference, read entry by entry: each is a column of the layer's weights against the normalised row. -/
module

public import proofs.«01_k».proof.Proof.Gen.Reference4Ideal.Read
public import proofs.«01_k».proof.Proof.Rows

@[expose] public section
set_option maxRecDepth 16384
noncomputable section
namespace Cert.Reference4Ideal.QkvRef
open Cert.Reference4Ideal Cert.Reference4Ideal.Gen Cert.Reference4Ideal.Read Idealize.ShloMosaic Idealize.ShloMosaic.TcCoe Idealize.SL.Sem

variable (x : FVec Ideal S8x4096x1024 .f32) (g : FVec Ideal S2x1024 .f32) (w : FVec Ideal S1x1024x1536 .f32)

/-- The normalised row. -/
theorem h_at (b : Fin 8) (s : Fin 4096) (k : Fin 1024) :
    val_main_v14 (F := Ideal) x g (ix3 b s k) = Rows.rms (fun j => x (ix3 b s j)) (fun j => g (ix2 1 j)) k := by
  unfold Rows.rms
  pointwise [val_main_v14, val_main_v13, val_main_v12, val_main_v1, val_main_v0, val_main_v11, val_main_v10, val_main_v9, val_main_v8, val_main_v7, val_main_cst_1, val_main_v6, val_main_v5, val_main_cst_0, val_main_v4, val_main_v3, val_main_v2, val_main_cst]

/-- Column `e` of the projection. -/
theorem proj_at (b : Fin 8) (s : Fin 4096) (e : Fin 1536) : val_main_v16 (F := Ideal) x g w (ix3 b s e)
    = Rows.lin (Rows.rms (fun j => x (ix3 b s j)) (fun j => g (ix2 1 j))) (fun j e => w (ix3 0 j e)) e := by
  have h := h_at x g b s
  unfold val_main_v16 Rows.lin
  generalize val_main_v14 (F := Ideal) x g = H at h
  simp only [← h]
  pointwise [val_main_v15]

theorem query_at (b : Fin 8) (s : Fin 4096) (n : Fin 256) (e : Fin 1024) (p : Fin 128) (hn : 128 * n.val + p.val = 4096 * b.val + s.val) :
    val_main_v26 (F := Ideal) x g w (ix3 n e p)
      = Rows.lin (Rows.rms (fun j => x (ix3 b s j)) (fun j => g (ix2 1 j))) (fun j e => w (ix3 0 j e)) ⟨e.val, by omega⟩ * Ideal.ofBits FTy.f32 0x3E38AA3B#32 := by
  rw [← proj_at x g w b s]
  have hi : idx_main_v22 (idx_main_v23 (ix3 n e p)) = ix3 b s e := by
    funext a
    apply Fin.ext
    match a with
    | ⟨0, _⟩ => show ((n.val * 128 + p.val) * 1024 + e.val) / 4194304 = b.val; omega
    | ⟨1, _⟩ => show ((n.val * 128 + p.val) * 1024 + e.val) / 1024 % 4096 = s.val; omega
    | ⟨2, _⟩ => show ((n.val * 128 + p.val) * 1024 + e.val) % 1024 = e.val; omega
  rw [val_main_v26_apply, val_main_v23_apply, val_main_v22_apply, hi]
  unfold val_main_v21 val_main_v17 val_main_v20 val_main_cst_2
  generalize val_main_v16 (F := Ideal) x g w = P
  pointwise

theorem key_at (b : Fin 8) (s : Fin 4096) (r : Fin 32768) (k : Fin 256) (hr : r.val = 4096 * b.val + s.val) :
    val_main_v28 (F := Ideal) x g w (ix2 r k)
      = Rows.lin (Rows.rms (fun j => x (ix3 b s j)) (fun j => g (ix2 1 j))) (fun j e => w (ix3 0 j e)) ⟨1024 + k.val, by omega⟩ := by
  rw [← proj_at x g w b s]
  have hi : idx_main_v27 (ix2 r k) = ix3 b s k := by
    funext a
    apply Fin.ext
    match a with
    | ⟨0, _⟩ => show (r.val * 256 + k.val) / 1048576 = b.val; omega
    | ⟨1, _⟩ => show (r.val * 256 + k.val) / 256 % 4096 = s.val; omega
    | ⟨2, _⟩ => show (r.val * 256 + k.val) % 256 = k.val; omega
  rw [val_main_v28_apply, val_main_v27_apply, hi]
  unfold val_main_v18
  generalize val_main_v16 (F := Ideal) x g w = P
  pointwise

theorem value_at (b : Fin 8) (s : Fin 4096) (n : Fin 256) (e : Fin 256) (p : Fin 128) (hn : 128 * n.val + p.val = 4096 * b.val + s.val) :
    val_main_v29 (F := Ideal) x g w (ix3 n e p)
      = Rows.lin (Rows.rms (fun j => x (ix3 b s j)) (fun j => g (ix2 1 j))) (fun j e => w (ix3 0 j e)) ⟨1280 + e.val, by omega⟩ := by
  rw [← proj_at x g w b s]
  have hi : idx_main_v24 (idx_main_v25 (ix3 n e p)) = ix3 b s e := by
    funext a
    apply Fin.ext
    match a with
    | ⟨0, _⟩ => show ((n.val * 128 + p.val) * 256 + e.val) / 1048576 = b.val; omega
    | ⟨1, _⟩ => show ((n.val * 128 + p.val) * 256 + e.val) / 256 % 4096 = s.val; omega
    | ⟨2, _⟩ => show ((n.val * 128 + p.val) * 256 + e.val) % 256 = e.val; omega
  rw [val_main_v29_apply, val_main_v25_apply, val_main_v24_apply, hi]
  unfold val_main_v19
  generalize val_main_v16 (F := Ideal) x g w = P
  pointwise

end Cert.Reference4Ideal.QkvRef
end
-- ==== Proof.QkvArray.lean ====
/- The projections' three result arrays: every grid point writes its own 2048 positions of each, so each array is the
   reference's result entry by entry. -/
module

public import proofs.«01_k».proof.Proof.QkvBlock
public import proofs.«01_k».proof.Proof.QkvRef
public import Idealize.ShloMosaic.Lib.Claim

@[expose] public section

set_option maxRecDepth 16384

noncomputable section

namespace Cert.Kernel4Ideal.QkvValue

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Every window's block index, at all grid points. -/
theorem idx : ∀ t : Fin cfg0.N, win0_0.index t = ![t.val, 0] ∧ win0_1.index t = ![0, 0] ∧ win0_2.index t = ![0, 0] ∧ win0_3.index t = ![0, 0]
    ∧ win0_4.index t = ![t.val, 0, 0] ∧ win0_5.index t = ![t.val, 0] ∧ win0_6.index t = ![t.val, 0, 0] :=
  (by decide +kernel : ∀ t : Fin grid0.N, _)

theorem blk0 (c : Dev nD) (t : Fin cfg0.N) (r : Fin 2048) (k : Fin 1024) (b : Fin 8) (s : Fin 4096) (hr : 2048 * t.val + r.val = 4096 * b.val + s.val) :
    (iblk m c 0 t : Vec Ideal S2048x1024 .f32) (ix2 r k) = m ((c : Thread nD τ).loc main_arg0) (ix3 b s k) := by
  blk_simp [iblk, idx t]
  entry_read
  pointwise
  blk_ext [idx t]

theorem blk1 (c : Dev nD) (t : Fin cfg0.N) (k : Fin 1024) :
    (iblk m c 1 t : Vec Ideal S1x1024 .f32) (ix2 0 k) = m ((c : Thread nD τ).loc main_arg1) (ix2 1 k) := by
  blk_simp [iblk, idx t]
  entry_read
  pointwise
  blk_ext [idx t]

/-- The transposed weights are one block, so its rows are the array's. -/
theorem row2 (t : Fin cfg0.N) (z : S1280x1024.Idx) : ((((View.whole main_v9).slice (win0_2.rect t)).emb z) 0).val = (z 0).val := by
  show win0_2.index t 0 * 1280 + 1 * (z 0).val = (z 0).val
  rw [(idx t).2.2.1]
  show 0 * 1280 + 1 * (z 0).val = (z 0).val
  omega

theorem blk2_query (c : Dev nD) (t : Fin cfg0.N) (e : Fin 1024) (k : Fin 1024) :
    (iblk m c 2 t : Vec Ideal S1280x1024 .bf16) (ix2 ⟨e.val, by omega⟩ k) = m ((c : Thread nD τ).loc main_arg2) (ix3 0 k ⟨e.val, by omega⟩) := by
  blk_simp [iblk, idx t]
  entry_read
  pointwise
  have h := row2 t (ix2 ⟨e.val, by omega⟩ k)
  refine (dif_pos (h.trans_lt e.isLt)).trans ?_
  blk_ext [idx t]

theorem blk2_value (c : Dev nD) (t : Fin cfg0.N) (e : Fin 256) (k : Fin 1024) :
    (iblk m c 2 t : Vec Ideal S1280x1024 .bf16) (ix2 ⟨1024 + e.val, by omega⟩ k) = m ((c : Thread nD τ).loc main_arg2) (ix3 0 k ⟨1280 + e.val, by omega⟩) := by
  blk_simp [iblk, idx t]
  entry_read
  pointwise
  have h := row2 t (ix2 ⟨1024 + e.val, by omega⟩ k)
  refine (dif_neg (fun hc => by have h' := h.symm.trans_lt hc; change 1024 + e.val < 1024 at h'; omega)).trans ?_
  blk_ext [idx t]

theorem blk3 (c : Dev nD) (t : Fin cfg0.N) (j : Fin 1024) (k : Fin 256) :
    (iblk m c 3 t : Vec Ideal S1024x256 .bf16) (ix2 j k) = m ((c : Thread nD τ).loc main_arg2) (ix3 0 j ⟨1024 + k.val, by omega⟩) := by
  blk_simp [iblk, idx t]
  entry_read
  pointwise
  blk_ext [idx t]

/-- The normalised row a grid point works on is the reference's. -/
theorem rows_eq (c : Dev nD) (t : Fin cfg0.N) (r : Fin 2048) (b : Fin 8) (s : Fin 4096) (hr : 2048 * t.val + r.val = 4096 * b.val + s.val) :
    Rows.rms (fun j => (iblk m c 0 t : Vec Ideal S2048x1024 .f32) (ix2 r j)) (fun j => (iblk m c 1 t : Vec Ideal S1x1024 .f32) (ix2 0 j))
      = Rows.rms (fun j => m ((c : Thread nD τ).loc main_arg0) (ix3 b s j)) (fun j => m ((c : Thread nD τ).loc main_arg1) (ix2 1 j)) := by
  have e0 := fun j => blk0 m c t r j b s hr
  have e1 := blk1 m c t
  simp only [e0, e1]

/-- The query array. -/
theorem final4 (c : Dev nD) : (dats m 0 c).arrAt 4 (cfgs 0).N
    = Cert.Reference4Ideal.Read.val_main_v26 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨j, e, p, rfl⟩ : ∃ (j : Fin 16) (e : Fin 1024) (p : Fin 128), y = ix3 j e p := ⟨y 0, y 1, y 2, funext fun i => by fin_cases i <;> rfl⟩
  have ht : t.val < 16 := lt_of_lt_of_eq t.isLt (by decide +kernel : grid0.N = 16)
  have hb : (2048 * t.val + (128 * j.val + p.val)) / 4096 < 8 := by omega
  have hs : (2048 * t.val + (128 * j.val + p.val)) % 4096 < 4096 := by omega
  refine ((out4_at _ _ _ _ _).trans ?_).trans ((Cert.Reference4Ideal.QkvRef.query_at (m ((c : Thread nD τ).loc main_arg0)) (m ((c : Thread nD τ).loc main_arg1)) (m ((c : Thread nD τ).loc main_arg2)) ⟨_, hb⟩ ⟨_, hs⟩ ⟨16 * t.val + j.val, by omega⟩ e p
    (by show 128 * (16 * t.val + j.val) + p.val = 4096 * ((2048 * t.val + (128 * j.val + p.val)) / 4096) + (2048 * t.val + (128 * j.val + p.val)) % 4096; omega)).symm.trans ?_)
  · refine congrArg (· * factor) ((mat_at _ _ _ ⟨e.val, by omega⟩ ⟨128 * j.val + p.val, by omega⟩).trans ?_)
    rw [rows_eq m c t ⟨128 * j.val + p.val, by omega⟩ ⟨_, hb⟩ ⟨_, hs⟩ (by show 2048 * t.val + (128 * j.val + p.val) = 4096 * ((2048 * t.val + (128 * j.val + p.val)) / 4096) + (2048 * t.val + (128 * j.val + p.val)) % 4096; omega)]
    exact Finset.sum_congr rfl fun i _ => congrArg _ (blk2_query m c t e i)
  · blk_ext [idx t]

/-- The key array. -/
theorem final5 (c : Dev nD) : (dats m 0 c).arrAt 5 (cfgs 0).N
    = Cert.Reference4Ideal.Read.val_main_v28 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, k, rfl⟩ : ∃ (r : Fin 2048) (k : Fin 256), y = ix2 r k := ⟨y 0, y 1, funext fun i => by fin_cases i <;> rfl⟩
  have ht : t.val < 16 := lt_of_lt_of_eq t.isLt (by decide +kernel : grid0.N = 16)
  have hb : (2048 * t.val + r.val) / 4096 < 8 := by omega
  have hs : (2048 * t.val + r.val) % 4096 < 4096 := by omega
  have hq : 2048 * t.val + r.val = 4096 * ((2048 * t.val + r.val) / 4096) + (2048 * t.val + r.val) % 4096 := by omega
  refine ((out5_at _ _ _ _ r k).trans ?_).trans ((Cert.Reference4Ideal.QkvRef.key_at (m ((c : Thread nD τ).loc main_arg0)) (m ((c : Thread nD τ).loc main_arg1)) (m ((c : Thread nD τ).loc main_arg2)) ⟨_, hb⟩ ⟨_, hs⟩ ⟨2048 * t.val + r.val, by omega⟩ k hq).symm.trans ?_)
  · rw [rows_eq m c t r ⟨_, hb⟩ ⟨_, hs⟩ hq]
    exact Finset.sum_congr rfl fun i _ => congrArg _ (blk3 m c t i k)
  · blk_ext [idx t]

/-- The value array. -/
theorem final6 (c : Dev nD) : (dats m 0 c).arrAt 6 (cfgs 0).N
    = Cert.Reference4Ideal.Read.val_main_v29 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  obtain ⟨j, e, p, rfl⟩ : ∃ (j : Fin 16) (e : Fin 256) (p : Fin 128), y = ix3 j e p := ⟨y 0, y 1, y 2, funext fun i => by fin_cases i <;> rfl⟩
  have ht : t.val < 16 := lt_of_lt_of_eq t.isLt (by decide +kernel : grid0.N = 16)
  have hb : (2048 * t.val + (128 * j.val + p.val)) / 4096 < 8 := by omega
  have hs : (2048 * t.val + (128 * j.val + p.val)) % 4096 < 4096 := by omega
  refine ((out6_at _ _ _ _ j e p).trans ?_).trans ((Cert.Reference4Ideal.QkvRef.value_at (m ((c : Thread nD τ).loc main_arg0)) (m ((c : Thread nD τ).loc main_arg1)) (m ((c : Thread nD τ).loc main_arg2)) ⟨_, hb⟩ ⟨_, hs⟩ ⟨16 * t.val + j.val, by omega⟩ e p
    (by show 128 * (16 * t.val + j.val) + p.val = 4096 * ((2048 * t.val + (128 * j.val + p.val)) / 4096) + (2048 * t.val + (128 * j.val + p.val)) % 4096; omega)).symm.trans ?_)
  · refine (mat_at _ _ _ ⟨1024 + e.val, by omega⟩ ⟨128 * j.val + p.val, by omega⟩).trans ?_
    rw [rows_eq m c t ⟨128 * j.val + p.val, by omega⟩ ⟨_, hb⟩ ⟨_, hs⟩ (by show 2048 * t.val + (128 * j.val + p.val) = 4096 * ((2048 * t.val + (128 * j.val + p.val)) / 4096) + (2048 * t.val + (128 * j.val + p.val)) % 4096; omega)]
    exact Finset.sum_congr rfl fun i _ => congrArg _ (blk2_value m c t e i)
  · blk_ext [idx t]

end Cert.Kernel4Ideal.QkvValue

end
-- ==== Proof.QkvClaim.lean ====
/- The value claim of the attention layer's projections. -/
module

public import proofs.«01_k».proof.Defs
public import proofs.«01_k».proof.Proof.QkvArray
public import Idealize.ShloMosaic.Lib.Claim

@[expose] public section

set_option maxRecDepth 16384

noncomputable section

namespace Cert.Proof

open Idealize.ShloMosaic Idealize.SL.Sem

/-- The projection kernel and its reference leave the same queries, keys and values, whatever the arguments. -/
theorem qkv_algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    all_goals obtain ⟨h0, h1, h2⟩ := hagree c
    · rw [Cert.Reference4Ideal.Read.val_main_v26_eq]
      exact (Cert.Kernel4Ideal.QkvValue.final4 m c).symm
    · rw [Cert.Reference4Ideal.Read.val_main_v28_eq]
      exact (Cert.Kernel4Ideal.QkvValue.final5 m c).symm
    · rw [Cert.Reference4Ideal.Read.val_main_v29_eq]
      exact (Cert.Kernel4Ideal.QkvValue.final6 m c).symm

end Cert.Proof

end
-- ==== Proof.lean ====
/- The assembly of the claims. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.FfnClaim
public import proofs.«01_k».proof.Proof.Ffn0Claim
public import proofs.«01_k».proof.Proof.MixClaim
public import proofs.«01_k».proof.Proof.QkvClaim
public import Idealize.ShloMosaic.Adequacy
public import Idealize.ShloMosaic.Init
public import Idealize.ShloMosaic.Lib.Quiescent

@[expose] public section

noncomputable section

namespace Cert.Proof

open Idealize.ShloMosaic Idealize.SL.Sem

/-- A reference program runs to completion and leaves its arguments alone. -/
theorem reference_quiescent : Cert.quiescent_ReferenceIdeal (hReferenceIdeal := Cert.ReferenceIdeal.Gen.facts) := by
  intro m g _
  hlo_run
  · exact fun c => by simp only [and_self]
  · exact sem_eq_zero_of_no_sems (by decide) _

theorem reference2_quiescent : Cert.quiescent_Reference2Ideal (hReference2Ideal := Cert.Reference2Ideal.Gen.facts) := by
  intro m g _
  hlo_run
  · exact fun c => by simp only [and_self]
  · exact sem_eq_zero_of_no_sems (by decide) _

theorem reference3_quiescent : Cert.quiescent_Reference3Ideal (hReference3Ideal := Cert.Reference3Ideal.Gen.facts) := by
  intro m g _
  hlo_run
  · exact fun c => by simp only [and_self]
  · exact sem_eq_zero_of_no_sems (by decide) _

theorem reference4_quiescent : Cert.quiescent_Reference4Ideal (hReference4Ideal := Cert.Reference4Ideal.Gen.facts) := by
  intro m g _
  hlo_run
  · exact fun c => by simp only [and_self]
  · exact sem_eq_zero_of_no_sems (by decide) _

theorem reference5_quiescent : Cert.quiescent_Reference5Ideal (hReference5Ideal := Cert.Reference5Ideal.Gen.facts) := by
  intro m g _
  hlo_run
  · exact fun c => by simp only [and_self]
  · exact sem_eq_zero_of_no_sems (by decide) _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ, fun m ρ _ => Cert.KernelIdeal.Gen.frame m ρ, reference_quiescent,
    fun m ρ _ => Cert.Kernel2.Gen.frame m ρ, fun m ρ _ => Cert.Kernel2Ideal.Gen.frame m ρ, reference2_quiescent,
    fun m ρ _ => Cert.Kernel3.Gen.frame m ρ, fun m ρ _ => Cert.Kernel3Ideal.Gen.frame m ρ, reference3_quiescent,
    fun m ρ _ => Cert.Kernel4.Gen.frame m ρ, fun m ρ _ => Cert.Kernel4Ideal.Gen.frame m ρ, reference4_quiescent,
    fun m ρ _ => Cert.Kernel5.Gen.frame m ρ, fun m ρ _ => Cert.Kernel5Ideal.Gen.frame m ρ, reference5_quiescent,
    trivial, mix_algebraic, trivial, ffn_algebraic, trivial, ffn0_algebraic, trivial, qkv_algebraic,
    trivial⟩

end Cert.Proof

end
